-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![16384, 768]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x256x64 : Shape := ⟨4, ![2, 512, 256, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x256x64 : S_.BroadcastsInDim S2x512x256x64 (![] : Fin 0 → Fin S2x512x256x64.rank)
  reducesTo_S2x512x256x64_S_d0_1_2_3 : S2x512x256x64.ReducesTo [0, 1, 2, 3] S_

variable [Facts]

def fn {F : FTy → Type} [FloatOps F] (main_arg0 : FVec F S2x512x768 .bf16) (main_arg1 : FVec F S768x512 .bf16) (main_arg2 : FVec F S2x512x256x64 .bf16) (main_arg3 : FVec F S2x512x256x64 .bf16) (main_arg4 : FVec F S512x768 .bf16) : IVec S_ 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x256x64 .bf16 := Host.absf main_arg2
  let main_cst_2 : FVec F S_ .bf16 := constant S_ .bf16 0x7F80#16
  let main_v10 : FVec F S2x512x256x64 .bf16 := broadcastInDim S2x512x256x64 ![] bcast_S_S2x512x256x64 main_cst_2
  let main_v11 : IVec S2x512x256x64 1 := cmpf .olt main_v9 main_v10
  let main_c_3 : IVec S_ 1 := constantI S_ 1 1#1
  let main_v12 : IVec S_ 1 := (fun x v => Host.reduce IntOp.andi x v reducesTo_S2x512x256x64_S_d0_1_2_3 h_S_) main_v11 main_c_3
  let main_v13 : IVec S_ 1 := andi main_v8 main_v12
  main_v13
-- ==== Pre_finite_ReferenceIdeal.lean ====
abbrev S2x512x768 : Shape := ⟨3, ![2, 512, 768]⟩
abbrev S768x16384 : Shape := ⟨2, ![768, 16384]⟩
abbrev S2x512x256x64 : Shape := ⟨4, ![2, 512, 256, 64]⟩
abbrev S16384x768 : Shape := ⟨2, ![16384, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x16384 : S_.BroadcastsInDim S768x16384 (![] : Fin 0 → Fin S768x16384.rank)
  reducesTo_S768x16384_S_d0_1 : S768x16384.ReducesTo [0, 1] S_
  bcast_S_S2x512x256x64 : S_.BroadcastsInDim S2x512x256x64 (![] : Fin 0 → Fin S2x512x256x64.rank)
  reducesTo_S2x512x256x64_S_d0_1_2_3 : S2x512x256x64.ReducesTo [0, 1, 2, 3] S_

variable [Facts]

def fn {F : FTy → Type} [FloatOps F] (main_arg0 : FVec F S2x512x768 .bf16) (main_arg1 : FVec F S768x16384 .bf16) (main_arg2 : FVec F S2x512x256x64 .bf16) (main_arg3 : FVec F S2x512x256x64 .bf16) (main_arg4 : FVec F S16384x768 .bf16) : IVec S_ 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x16384 .bf16 := Host.absf main_arg1
  let main_cst_0 : FVec F S_ .bf16 := constant S_ .bf16 0x7F80#16
  let main_v5 : FVec F S768x16384 .bf16 := broadcastInDim S768x16384 ![] bcast_S_S768x16384 main_cst_0
  let main_v6 : IVec S768x16384 1 := cmpf .olt main_v4 main_v5
  let main_c_1 : IVec S_ 1 := constantI S_ 1 1#1
  let main_v7 : IVec S_ 1 := (fun x v => Host.reduce IntOp.andi x v reducesTo_S768x16384_S_d0_1 h_S_) main_v6 main_c_1
  let main_v8 : IVec S_ 1 := andi main_v3 main_v7
  let main_v9 : FVec F S2x512x256x64 .bf16 := Host.absf main_arg2
  let main_cst_2 : FVec F S_ .bf16 := constant S_ .bf16 0x7F80#16
  let main_v10 : FVec F S2x512x256x64 .bf16 := broadcastInDim S2x512x256x64 ![] bcast_S_S2x512x256x64 main_cst_2
  let main_v11 : IVec S2x512x256x64 1 := cmpf .olt main_v9 main_v10
  let main_c_3 : IVec S_ 1 := constantI S_ 1 1#1
  let main_v12 : IVec S_ 1 := (fun x v => Host.reduce IntOp.andi x v reducesTo_S2x512x256x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x256x64 : Shape := ⟨4, ![2, 512, 256, 64]⟩
abbrev S512x768 : Shape := ⟨2, ![512, 768]⟩
abbrev S_ : Shape := ⟨0, ![]⟩
abbrev S2x512x8x64 : Shape := ⟨4, ![2, 512, 8, 64]⟩
abbrev S1024x768 : Shape := ⟨2, ![1024, 768]⟩
abbrev S32x32x768 : Shape := ⟨3, ![32, 32, 768]⟩
abbrev S32 : Shape := ⟨1, ![32]⟩
abbrev S512x512 : Shape := ⟨2, ![512, 512]⟩
abbrev S1x512x768 : Shape := ⟨3, ![1, 512, 768]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S64x768 : Shape := ⟨2, ![64, 768]⟩
abbrev S1 : Shape := ⟨1, ![1]⟩
abbrev S1x32x768 : Shape := ⟨3, ![1, 32, 768]⟩
abbrev S32x768 : Shape := ⟨2, ![32, 768]⟩

abbrev nBuf : Space → Nat
  | .hbm => 34
  | .vmem => 9
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x256x64, .bf16⟩
  | .hbm, ⟨3, _⟩ => ⟨S2x512x256x64, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x8x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x8x64, .bf16⟩
  | .hbm, ⟨33, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S512x768, .bf16⟩
  | .local _ .vmem, ⟨5, _⟩ => ⟨S2x512x768, .f32⟩
  | .local _ .vmem, ⟨6, _⟩ => ⟨S1024x768, .bf16⟩
  | .local _ .vmem, ⟨7, _⟩ => ⟨S32x32x768, .bf16⟩
  | .local _ .vmem, ⟨8, _⟩ => ⟨S1024x768, .bf16⟩
  | _, _ => ⟨S2x512x768, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c1_i32_0 : BitVec 32 := 1#32
  let c31_i32 : BitVec 32 := 31#32
  let v4 : BitVec 32 := Scalar.addi c1_i32_0 c31_i32
  let c1_i32_1 : BitVec 32 := 1#32
  ⟨c1_i32_0, v4, c1_i32_1⟩
def k0_dev1 (d0 : Dev nD) (k0_t1 : Fin k0_t1_loop.trips) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let c1_i32_1 : BitVec 32 := 1#32
  let arg13 : BitVec 32 := Scf.iv c1_i32_0 c1_i32_1 k0_t1
  let v411 : BitVec 32 := Scalar.addi v2 arg13
  let c32_i32_291 : BitVec 32 := 32#32
  let c0_i32_292 : BitVec 32 := 0#32
  let v412 : BitVec 1 := Scalar.cmpi .eq c32_i32_291 c0_i32_292
  let c1_i32_293 : BitVec 32 := 1#32
  let v413 : BitVec 32 := Scalar.select v412 c1_i32_293 c32_i32_291
  let v414 : BitVec 32 := Scalar.remsi v411 v413
  let c0_i32_295 : BitVec 32 := 0#32
  let v416 : BitVec 1 := Scalar.cmpi .slt v414 c0_i32_295
  let c0_i32_296 : BitVec 32 := 0#32
  let v417 : BitVec 1 := Scalar.cmpi .slt v413 c0_i32_296
  let v418 : BitVec 1 := Scalar.xori v416 v417
  let c0_i32_294 : BitVec 32 := 0#32
  let v415 : BitVec 1 := Scalar.cmpi .ne v414 c0_i32_294
  let v419 : BitVec 1 := Scalar.andi v418 v415
  let v420 : BitVec 32 := Scalar.addi v414 v413
  let v421 : BitVec 32 := Scalar.select v419 v420 v414
  let c1_i32_298 : BitVec 32 := 1#32
  let v422 : BitVec 32 := Scalar.muli v421 c1_i32_298
  let v423 : BitVec 32 := Scalar.addi c0_i32_299 v422
  v423.toNat
@[reducible] def k0_t2_loop : Scf.Loop 32 :=
  let c0_i32 : BitVec 32 := 0#32
  let c16_i32 : BitVec 32 := 16#32
  let v198 : BitVec 32 := Scalar.addi c0_i32 c16_i32
  let c1_i32_120 : BitVec 32 := 1#32
  ⟨c0_i32, v198, c1_i32_120⟩
def k0_cond1 (d0 : Dev nD) (k0_t2 : Fin k0_t2_loop.trips) : BitVec 1 :=
  let c0_i32 : BitVec 32 := 0#32
  let c1_i32_120 : BitVec 32 := 1#32
  let arg13 : BitVec 32 := Scf.iv c0_i32 c1_i32_120 k0_t2
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v411 : BitVec 1 := Scalar.cmpi .ne arg13 v2
  let v412 : BitVec 32 := Scalar.extui v411
  let c0_i32_291 : BitVec 32 := 0#32
  let v413 : BitVec 1 := Scalar.cmpi .ne v412 c0_i32_291
  v413

def k0_off1 (k0_t2 : Fin k0_t2_loop.trips) : Fin 1 → Nat :=
  let c0_i32 : BitVec 32 := 0#32
  let c1_i32_120 : BitVec 32 := 1#32
  let arg13 : BitVec 32 := Scf.iv c0_i32 c1_i32_120 k0_t2
  ![arg13.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_295 : BitVec 32 := 0#32
  let c0_i32_296 : BitVec 32 := 0#32
  ![v2.toNat, 0, 0]
def k0_off4 (k0_t2 : Fin k0_t2_loop.trips) : Fin 2 → Nat :=
  let c0_i32 : BitVec 32 := 0#32
  let c1_i32_120 : BitVec 32 := 1#32
  let arg13 : BitVec 32 := Scf.iv c0_i32 c1_i32_120 k0_t2
  let c32_i32_292 : BitVec 32 := 32#32
  let v414 : BitVec 32 := Scalar.muli arg13 c32_i32_292
  let c0_i32_297 : BitVec 32 := 0#32
  ![v414.toNat, 0]
def k0_dev2 (k0_t2 : Fin k0_t2_loop.trips) : Nat :=
  let c0_i32_294 : BitVec 32 := 0#32
  let c0_i32 : BitVec 32 := 0#32
  let c1_i32_120 : BitVec 32 := 1#32
  let arg13 : BitVec 32 := Scf.iv c0_i32 c1_i32_120 k0_t2
  let c1_i32_293 : BitVec 32 := 1#32
  let v415 : BitVec 32 := Scalar.muli arg13 c1_i32_293
  let v416 : BitVec 32 := Scalar.addi c0_i32_294 v415
  v416.toNat
@[reducible] def k0_t3_loop : Scf.Loop 32 :=
  let c16_i32_251 : BitVec 32 := 16#32
  let c16_i32_252 : BitVec 32 := 16#32
  let v380 : BitVec 32 := Scalar.addi c16_i32_251 c16_i32_252
  let c1_i32_253 : BitVec 32 := 1#32
  ⟨c16_i32_251, v380, c1_i32_253⟩
def k0_cond2 (d0 : Dev nD) (k0_t3 : Fin k0_t3_loop.trips) : BitVec 1 :=
  let c16_i32_251 : BitVec 32 := 16#32
  let c1_i32_253 : BitVec 32 := 1#32
  let arg13 : BitVec 32 := Scf.iv c16_i32_251 c1_i32_253 k0_t3
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v411 : BitVec 1 := Scalar.cmpi .ne arg13 v2
  let v412 : BitVec 32 := Scalar.extui v411
  let c0_i32_291 : BitVec 32 := 0#32
  let v413 : BitVec 1 := Scalar.cmpi .ne v412 c0_i32_291
  v413

def k0_off5 (k0_t3 : Fin k0_t3_loop.trips) : Fin 1 → Nat :=
  let c16_i32_251 : BitVec 32 := 16#32
  let c1_i32_253 : BitVec 32 := 1#32
  let arg13 : BitVec 32 := Scf.iv c16_i32_251 c1_i32_253 k0_t3
  ![arg13.toNat]
def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_295 : BitVec 32 := 0#32
  let c0_i32_296 : BitVec 32 := 0#32
  ![v2.toNat, 0, 0]
def k0_off8 (k0_t3 : Fin k0_t3_loop.trips) : Fin 2 → Nat :=
  let c16_i32_251 : BitVec 32 := 16#32
  let c1_i32_253 : BitVec 32 := 1#32
  let arg13 : BitVec 32 := Scf.iv c16_i32_251 c1_i32_253 k0_t3
  let c32_i32_292 : BitVec 32 := 32#32
  let v414 : BitVec 32 := Scalar.muli arg13 c32_i32_292
  let c0_i32_297 : BitVec 32 := 0#32
  ![v414.toNat, 0]
def k0_dev3 (k0_t3 : Fin k0_t3_loop.trips) : Nat :=
  let c0_i32_294 : BitVec 32 := 0#32
  let c16_i32_251 : BitVec 32 := 16#32
  let c1_i32_253 : BitVec 32 := 1#32
  let arg13 : BitVec 32 := Scf.iv c16_i32_251 c1_i32_253 k0_t3
  let c1_i32_293 : BitVec 32 := 1#32
  let v415 : BitVec 32 := Scalar.muli arg13 c1_i32_293
  let v416 : BitVec 32 := Scalar.addi c0_i32_294 v415
  v416.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_255 : BitVec 32 := 32#32
  let v381 : BitVec 32 := Scalar.muli v2 c32_i32_255
  let v382 : Index := Scalar.indexCast v381
  let c0_256 : Index := 0#32
  ![v382.toNat, 0]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v384 : Index := Scalar.indexCast v2
  let c0_257 : Index := 0#32
  let c0_258 : Index := 0#32
  ![v384.toNat, 0, 0]
@[reducible] def k0_t4_loop : Scf.Loop 32 :=
  let c1_i32_259 : BitVec 32 := 1#32
  let c31_i32_260 : BitVec 32 := 31#32
  let v388 : BitVec 32 := Scalar.addi c1_i32_259 c31_i32_260
  let c1_i32_261 : BitVec 32 := 1#32
  ⟨c1_i32_259, v388, c1_i32_261⟩
def k0_off11 (d0 : Dev nD) (k0_t4 : Fin k0_t4_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_259 : BitVec 32 := 1#32
  let c1_i32_261 : BitVec 32 := 1#32
  let arg13 : BitVec 32 := Scf.iv c1_i32_259 c1_i32_261 k0_t4
  let v411 : BitVec 32 := Scalar.addi v2 arg13
  let c32_i32_291 : BitVec 32 := 32#32
  let c0_i32_292 : BitVec 32 := 0#32
  let v412 : BitVec 1 := Scalar.cmpi .eq c32_i32_291 c0_i32_292
  let c1_i32_293 : BitVec 32 := 1#32
  let v413 : BitVec 32 := Scalar.select v412 c1_i32_293 c32_i32_291
  let v414 : BitVec 32 := Scalar.remsi v411 v413
  let c0_i32_295 : BitVec 32 := 0#32
  let v416 : BitVec 1 := Scalar.cmpi .slt v414 c0_i32_295
  let c0_i32_296 : BitVec 32 := 0#32
  let v417 : BitVec 1 := Scalar.cmpi .slt v413 c0_i32_296
  let v418 : BitVec 1 := Scalar.xori v416 v417
  let c0_i32_294 : BitVec 32 := 0#32
  let v415 : BitVec 1 := Scalar.cmpi .ne v414 c0_i32_294
  let v419 : BitVec 1 := Scalar.andi v418 v415
  let v420 : BitVec 32 := Scalar.addi v414 v413
  let v421 : BitVec 32 := Scalar.select v419 v420 v414
  ![v421.toNat]
def k0_off12 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_259 : BitVec 32 := 1#32
  let c1_i32_261 : BitVec 32 := 1#32
  let arg13 : BitVec 32 := Scf.iv c1_i32_259 c1_i32_261 k0_t4
  let v411 : BitVec 32 := Scalar.addi v2 arg13
  let c32_i32_291 : BitVec 32 := 32#32
  let c0_i32_292 : BitVec 32 := 0#32
  let v412 : BitVec 1 := Scalar.cmpi .eq c32_i32_291 c0_i32_292
  let c1_i32_293 : BitVec 32 := 1#32
  let v413 : BitVec 32 := Scalar.select v412 c1_i32_293 c32_i32_291
  let v414 : BitVec 32 := Scalar.remsi v411 v413
  let c0_i32_295 : BitVec 32 := 0#32
  let v416 : BitVec 1 := Scalar.cmpi .slt v414 c0_i32_295
  let c0_i32_296 : BitVec 32 := 0#32
  let v417 : BitVec 1 := Scalar.cmpi .slt v413 c0_i32_296
  let v418 : BitVec 1 := Scalar.xori v416 v417
  let c0_i32_294 : BitVec 32 := 0#32
  let v415 : BitVec 1 := Scalar.cmpi .ne v414 c0_i32_294
  let v419 : BitVec 1 := Scalar.andi v418 v415
  let v420 : BitVec 32 := Scalar.addi v414 v413
  let v421 : BitVec 32 := Scalar.select v419 v420 v414
  let c0_i32_299 : BitVec 32 := 0#32
  let c0_i32_300 : BitVec 32 := 0#32
  ![v421.toNat, 0, 0]
@[reducible] def k0_t5_loop : Scf.Loop 32 :=
  let c1_i32_269 : BitVec 32 := 1#32
  let c31_i32_270 : BitVec 32 := 31#32
  let v398 : BitVec 32 := Scalar.addi c1_i32_269 c31_i32_270
  let c1_i32_271 : BitVec 32 := 1#32
  ⟨c1_i32_269, v398, c1_i32_271⟩
def k0_off13 (d0 : Dev nD) (k0_t5 : Fin k0_t5_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_269 : BitVec 32 := 1#32
  let c1_i32_271 : BitVec 32 := 1#32
  let arg13 : BitVec 32 := Scf.iv c1_i32_269 c1_i32_271 k0_t5
  let v411 : BitVec 32 := Scalar.addi v2 arg13
  let c32_i32_291 : BitVec 32 := 32#32
  let c0_i32_292 : BitVec 32 := 0#32
  let v412 : BitVec 1 := Scalar.cmpi .eq c32_i32_291 c0_i32_292
  let c1_i32_293 : BitVec 32 := 1#32
  let v413 : BitVec 32 := Scalar.select v412 c1_i32_293 c32_i32_291
  let v414 : BitVec 32 := Scalar.remsi v411 v413
  let c0_i32_295 : BitVec 32 := 0#32
  let v416 : BitVec 1 := Scalar.cmpi .slt v414 c0_i32_295
  let c0_i32_296 : BitVec 32 := 0#32
  let v417 : BitVec 1 := Scalar.cmpi .slt v413 c0_i32_296
  let v418 : BitVec 1 := Scalar.xori v416 v417
  let c0_i32_294 : BitVec 32 := 0#32
  let v415 : BitVec 1 := Scalar.cmpi .ne v414 c0_i32_294
  let v419 : BitVec 1 := Scalar.andi v418 v415
  let v420 : BitVec 32 := Scalar.addi v414 v413
  let v421 : BitVec 32 := Scalar.select v419 v420 v414
  ![v421.toNat]
def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_298 : BitVec 32 := 32#32
  let v423 : BitVec 32 := Scalar.muli v2 c32_i32_298
  let c0_i32_301 : BitVec 32 := 0#32
  ![v423.toNat, 0]
def k0_dev4 (d0 : Dev nD) (k0_t5 : Fin k0_t5_loop.trips) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_269 : BitVec 32 := 1#32
  let c1_i32_271 : BitVec 32 := 1#32
  let arg13 : BitVec 32 := Scf.iv c1_i32_269 c1_i32_271 k0_t5
  let v411 : BitVec 32 := Scalar.addi v2 arg13
  let c32_i32_291 : BitVec 32 := 32#32
  let c0_i32_292 : BitVec 32 := 0#32
  let v412 : BitVec 1 := Scalar.cmpi .eq c32_i32_291 c0_i32_292
  let c1_i32_293 : BitVec 32 := 1#32
  let v413 : BitVec 32 := Scalar.select v412 c1_i32_293 c32_i32_291
  let v414 : BitVec 32 := Scalar.remsi v411 v413
  let c0_i32_295 : BitVec 32 := 0#32
  let v416 : BitVec 1 := Scalar.cmpi .slt v414 c0_i32_295
  let c0_i32_296 : BitVec 32 := 0#32
  let v417 : BitVec 1 := Scalar.cmpi .slt v413 c0_i32_296
  let v418 : BitVec 1 := Scalar.xori v416 v417
  let c0_i32_294 : BitVec 32 := 0#32
  let v415 : BitVec 1 := Scalar.cmpi .ne v414 c0_i32_294
  let v419 : BitVec 1 := Scalar.andi v418 v415
  let v420 : BitVec 32 := Scalar.addi v414 v413
  let v421 : BitVec 32 := Scalar.select v419 v420 v414
  let c1_i32_299 : BitVec 32 := 1#32
  let v424 : BitVec 32 := Scalar.muli v421 c1_i32_299
  let v425 : BitVec 32 := Scalar.addi c0_i32_300 v424
  v425.toNat
@[reducible] def k0_t6_loop : Scf.Loop 32 :=
  let c1_i32_273 : BitVec 32 := 1#32
  let c31_i32_274 : BitVec 32 := 31#32
  let v399 : BitVec 32 := Scalar.addi c1_i32_273 c31_i32_274
  let c1_i32_275 : BitVec 32 := 1#32
  ⟨c1_i32_273, v399, c1_i32_275⟩
def k0_off16 (d0 : Dev nD) (k0_t6 : Fin k0_t6_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_273 : BitVec 32 := 1#32
  let c1_i32_275 : BitVec 32 := 1#32
  let arg13 : BitVec 32 := Scf.iv c1_i32_273 c1_i32_275 k0_t6
  let v411 : BitVec 32 := Scalar.addi v2 arg13
  let c32_i32_291 : BitVec 32 := 32#32
  let c0_i32_292 : BitVec 32 := 0#32
  let v412 : BitVec 1 := Scalar.cmpi .eq c32_i32_291 c0_i32_292
  let c1_i32_293 : BitVec 32 := 1#32
  let v413 : BitVec 32 := Scalar.select v412 c1_i32_293 c32_i32_291
  let v414 : BitVec 32 := Scalar.remsi v411 v413
  let c0_i32_295 : BitVec 32 := 0#32
  let v416 : BitVec 1 := Scalar.cmpi .slt v414 c0_i32_295
  let c0_i32_296 : BitVec 32 := 0#32
  let v417 : BitVec 1 := Scalar.cmpi .slt v413 c0_i32_296
  let v418 : BitVec 1 := Scalar.xori v416 v417
  let c0_i32_294 : BitVec 32 := 0#32
  let v415 : BitVec 1 := Scalar.cmpi .ne v414 c0_i32_294
  let v419 : BitVec 1 := Scalar.andi v418 v415
  let v420 : BitVec 32 := Scalar.addi v414 v413
  let v421 : BitVec 32 := Scalar.select v419 v420 v414
  ![v421.toNat]
def k0_off17 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_273 : BitVec 32 := 1#32
  let c1_i32_275 : BitVec 32 := 1#32
  let arg13 : BitVec 32 := Scf.iv c1_i32_273 c1_i32_275 k0_t6
  let v411 : BitVec 32 := Scalar.addi v2 arg13
  let c32_i32_291 : BitVec 32 := 32#32
  let c0_i32_292 : BitVec 32 := 0#32
  let v412 : BitVec 1 := Scalar.cmpi .eq c32_i32_291 c0_i32_292
  let c1_i32_293 : BitVec 32 := 1#32
  let v413 : BitVec 32 := Scalar.select v412 c1_i32_293 c32_i32_291
  let v414 : BitVec 32 := Scalar.remsi v411 v413
  let c0_i32_295 : BitVec 32 := 0#32
  let v416 : BitVec 1 := Scalar.cmpi .slt v414 c0_i32_295
  let c0_i32_296 : BitVec 32 := 0#32
  let v417 : BitVec 1 := Scalar.cmpi .slt v413 c0_i32_296
  let v418 : BitVec 1 := Scalar.xori v416 v417
  let c0_i32_294 : BitVec 32 := 0#32
  let v415 : BitVec 1 := Scalar.cmpi .ne v414 c0_i32_294
  let v419 : BitVec 1 := Scalar.andi v418 v415
  let v420 : BitVec 32 := Scalar.addi v414 v413
  let v421 : BitVec 32 := Scalar.select v419 v420 v414
  let c32_i32_297 : BitVec 32 := 32#32
  let v422 : BitVec 32 := Scalar.muli v421 c32_i32_297
  let c0_i32_300 : BitVec 32 := 0#32
  ![v422.toNat, 0]
@[reducible] def k0_t7_loop : Scf.Loop 32 :=
  let c1_i32_277 : BitVec 32 := 1#32
  let c31_i32_278 : BitVec 32 := 31#32
  let v400 : BitVec 32 := Scalar.addi c1_i32_277 c31_i32_278
  let c1_i32_279 : BitVec 32 := 1#32
  ⟨c1_i32_277, v400, c1_i32_279⟩
def k0_off18 (d0 : Dev nD) (k0_t7 : Fin k0_t7_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_277 : BitVec 32 := 1#32
  let c1_i32_279 : BitVec 32 := 1#32
  let arg13 : BitVec 32 := Scf.iv c1_i32_277 c1_i32_279 k0_t7
  let v411 : BitVec 32 := Scalar.addi v2 arg13
  let c32_i32_291 : BitVec 32 := 32#32
  let c0_i32_292 : BitVec 32 := 0#32
  let v412 : BitVec 1 := Scalar.cmpi .eq c32_i32_291 c0_i32_292
  let c1_i32_293 : BitVec 32 := 1#32
  let v413 : BitVec 32 := Scalar.select v412 c1_i32_293 c32_i32_291
  let v414 : BitVec 32 := Scalar.remsi v411 v413
  let c0_i32_295 : BitVec 32 := 0#32
  let v416 : BitVec 1 := Scalar.cmpi .slt v414 c0_i32_295
  let c0_i32_296 : BitVec 32 := 0#32
  let v417 : BitVec 1 := Scalar.cmpi .slt v413 c0_i32_296
  let v418 : BitVec 1 := Scalar.xori v416 v417
  let c0_i32_294 : BitVec 32 := 0#32
  let v415 : BitVec 1 := Scalar.cmpi .ne v414 c0_i32_294
  let v419 : BitVec 1 := Scalar.andi v418 v415
  let v420 : BitVec 32 := Scalar.addi v414 v413
  let v421 : BitVec 32 := Scalar.select v419 v420 v414
  ![v421.toNat]
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x16384 : Shape := ⟨2, ![768, 16384]⟩
abbrev S2x512x256x64 : Shape := ⟨4, ![2, 512, 256, 64]⟩
abbrev S16384x768 : Shape := ⟨2, ![16384, 768]⟩
abbrev S2x512x16384 : Shape := ⟨3, ![2, 512, 16384]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x256x512x512 : Shape := ⟨4, ![2, 256, 512, 512]⟩
abbrev S1x1x512x512 : Shape := ⟨4, ![1, 1, 512, 512]⟩
abbrev S2x256x512 : Shape := ⟨3, ![2, 256, 512]⟩
abbrev S2x256x512x1 : Shape := ⟨4, ![2, 256, 512, 1]⟩
abbrev S1x1x512x1 : Shape := ⟨4, ![1, 1, 512, 1]⟩
abbrev S2x256x64x512 : Shape := ⟨4, ![2, 256, 64, 512]⟩

abbrev nBuf : Space → Nat
  | .hbm => 72
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x16384, .bf16⟩
  | .hbm, ⟨2, _⟩ => ⟨S2x512x256x64, .bf16⟩
  | .hbm, ⟨3, _⟩ => ⟨S2x512x256x64, .bf16⟩
  | .hbm, ⟨4, _⟩ => ⟨S16384x768, .bf16⟩
  | .hbm, ⟨5, _⟩ => ⟨S2x512x768, .f32⟩
  | .hbm, ⟨6, _⟩ => ⟨S768x16384, .f32⟩
  | .hbm, ⟨7, _⟩ => ⟨S2x512x256x64, .f32⟩
  | .hbm, ⟨8, _⟩ => ⟨S2x512x256x64, .f32⟩
  | .hbm, ⟨9, _⟩ => ⟨S16384x768, .f32⟩
  | .hbm, ⟨10, _⟩ => ⟨S2x512x16384, .f32⟩
  | .hbm, ⟨11, _⟩ => ⟨S2x512x256x64, .f32⟩
  | .hbm, ⟨12, _⟩ => ⟨S512, .i32⟩
  | .hbm, ⟨13, _⟩ => ⟨S512x1, .i32⟩
  | .hbm, ⟨14, _⟩ => ⟨S512, .i32⟩
  | .hbm, ⟨15, _⟩ => ⟨S1x512, .i32⟩
  | .hbm, ⟨16, _⟩ => ⟨S512x512, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i1⟩
  | .hbm, ⟨23, _⟩ => ⟨S_, .i32⟩
  | .hbm, ⟨24, _⟩ => ⟨S1x512, .i32⟩
  | .hbm, ⟨25, _⟩ => ⟨S1x512, .i1⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S512x512, .i1⟩
  | .hbm, ⟨30, _⟩ => ⟨S512x512, .i1⟩
  | .hbm, ⟨31, _⟩ => ⟨S512x512, .i1⟩
  | .hbm, ⟨32, _⟩ => ⟨S512x512, .i1⟩
  | .hbm, ⟨33, _⟩ => ⟨S2x256x512x512, .f32⟩
  | .hbm, ⟨34, _⟩ => ⟨S_, .f32⟩
  | .hbm, ⟨35, _⟩ => ⟨S2x256x512x512, .f32⟩
  | .hbm, ⟨36, _⟩ => ⟨S2x256x512x512, .f32⟩
  | .hbm, ⟨37, _⟩ => ⟨S1x1x512x512, .i1⟩
  | .hbm, ⟨38, _⟩ => ⟨S_, .f32⟩
  | .hbm, ⟨39, _⟩ => ⟨S_, .f32⟩
  | .hbm, ⟨40, _⟩ => ⟨S2x256x512x512, .i1⟩
  | .hbm, ⟨41, _⟩ => ⟨S2x256x512x512, .f32⟩
  | .hbm, ⟨42, _⟩ => ⟨S2x256x512x512, .f32⟩
  | .hbm, ⟨43, _⟩ => ⟨S_, .f32⟩
  | .hbm, ⟨44, _⟩ => ⟨S2x256x512, .f32⟩
  | .hbm, ⟨45, _⟩ => ⟨S2x256x512x1, .f32⟩
  | .hbm, ⟨46, _⟩ => ⟨S2x256x512x512, .f32⟩
  | .hbm, ⟨47, _⟩ => ⟨S2x256x512x512, .f32⟩
  | .hbm, ⟨48, _⟩ => ⟨S2x256x512x512, .f32⟩
  | .hbm, ⟨49, _⟩ => ⟨S_, .i1⟩
  | .hbm, ⟨50, _⟩ => ⟨S512, .i1⟩
  | .hbm, ⟨51, _⟩ => ⟨S1x1x512x1, .i1⟩
  | .hbm, ⟨52, _⟩ => ⟨S_, .f32⟩
  | .hbm, ⟨53, _⟩ => ⟨S2x256x512, .f32⟩
  | .hbm, ⟨54, _⟩ => ⟨S2x256x512x1, .f32⟩
  | .hbm, ⟨55, _⟩ => ⟨S_, .f32⟩
  | .hbm, ⟨56, _⟩ => ⟨S_, .f32⟩
  | .hbm, ⟨57, _⟩ => ⟨S2x256x512x1, .i1⟩
  | .hbm, ⟨58, _⟩ => ⟨S2x256x512x1, .f32⟩
  | .hbm, ⟨59, _⟩ => ⟨S2x256x512x1, .f32⟩
  | .hbm, ⟨60, _⟩ => ⟨S2x256x512x512, .f32⟩
  | .hbm, ⟨61, _⟩ => ⟨S2x256x512x512, .f32⟩
  | .hbm, ⟨62, _⟩ => ⟨S1x1x512x1, .i1⟩
  | .hbm, ⟨63, _⟩ => ⟨S_, .f32⟩
  | .hbm, ⟨64, _⟩ => ⟨S_, .f32⟩
  | .hbm, ⟨65, _⟩ => ⟨S2x256x512x512, .i1⟩
  | .hbm, ⟨66, _⟩ => ⟨S2x256x512x512, .f32⟩
  | .hbm, ⟨67, _⟩ => ⟨S2x256x512x512, .f32⟩
  | .hbm, ⟨68, _⟩ => ⟨S2x256x64x512, .f32⟩
  | .hbm, ⟨69, _⟩ => ⟨S2x512x256x64, .f32⟩
  | .hbm, ⟨70, _⟩ => ⟨S2x512x16384, .f32⟩
  | .hbm, ⟨71, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Index.lean ====
/-
The device and offset words of the kernel, in closed form.

A trip `t` of a rotating loop on device `d` addresses the device `turn d t`, the one `t + 1` places after `d`
around the mesh: over the trips that is every device but `d`, each once.
-/
module

public import proofs.«01_k».proof.Proof.Gen.KernelIdeal.Loops

@[expose] public section

noncomputable section

namespace Cert.KernelIdeal

open Idealize.ShloMosaic

/-- The device `t + 1` places after `d` around the mesh. -/
def turn (d : Dev nD) (t : Fin 31) : Dev nD := ⟨(d.val + (t.val + 1)) % 32, Nat.mod_lt _ (by decide)⟩

theorem turn_ne (d : Dev nD) (t : Fin 31) : turn d t ≠ d := by
  intro h
  have h1 : (d.val + (t.val + 1)) % 32 = d.val := congrArg Fin.val h
  have h2 : d.val < 32 := d.isLt
  have h3 := t.isLt
  omega

theorem turn_inj (d : Dev nD) : Function.Injective (turn d) := by
  intro s t h
  have h1 : (d.val + (s.val + 1)) % 32 = (d.val + (t.val + 1)) % 32 := congrArg Fin.val h
  have h2 : d.val < 32 := d.isLt
  have h3 := s.isLt
  have h4 := t.isLt
  exact Fin.ext (by omega)

theorem image_turn (d : Dev nD) : Finset.univ.image (turn d) = Finset.univ.erase d := by
  refine Finset.eq_of_subset_of_card_le (fun p hp => ?_) ?_
  · obtain ⟨t, -, rfl⟩ := Finset.mem_image.mp hp
    exact Finset.mem_erase.mpr ⟨turn_ne d t, Finset.mem_univ _⟩
  · rw [Finset.card_image_of_injective _ (turn_inj d), Finset.card_erase_of_mem (Finset.mem_univ _)]
    decide

theorem trips1 : k0_t1_loop.trips = 31 := by decide +kernel
theorem trips2 : k0_t2_loop.trips = 16 := by decide +kernel
theorem trips3 : k0_t3_loop.trips = 16 := by decide +kernel
theorem trips4 : k0_t4_loop.trips = 31 := by decide +kernel
theorem trips5 : k0_t5_loop.trips = 31 := by decide +kernel
theorem trips6 : k0_t6_loop.trips = 31 := by decide +kernel
theorem trips7 : k0_t7_loop.trips = 31 := by decide +kernel

theorem dev1_eq : ∀ (d : Dev nD) (t : Fin k0_t1_loop.trips), k0_dev1 d t = (turn d (t.cast trips1)).val := by
  decide +kernel

theorem dev4_eq : ∀ (d : Dev nD) (t : Fin k0_t5_loop.trips), k0_dev4 d t = (turn d (t.cast trips5)).val := by
  decide +kernel

theorem off11_eq : ∀ (d : Dev nD) (t : Fin k0_t4_loop.trips), k0_off11 d t = ![(turn d (t.cast trips4)).val] := by
  decide +kernel

theorem off12_eq : ∀ (d : Dev nD) (t : Fin k0_t4_loop.trips), k0_off12 d t = ![(turn d (t.cast trips4)).val, 0, 0] := by
  decide +kernel

theorem off13_eq : ∀ (d : Dev nD) (t : Fin k0_t5_loop.trips), k0_off13 d t = ![(turn d (t.cast trips5)).val] := by
  decide +kernel

theorem off15_eq : ∀ d : Dev nD, k0_off15 d = ![32 * d.val, 0] := by
  decide +kernel

theorem off9_eq : ∀ d : Dev nD, k0_off9 d = ![32 * d.val, 0] := by
  decide +kernel

theorem off16_eq : ∀ (d : Dev nD) (t : Fin k0_t6_loop.trips), k0_off16 d t = ![(turn d (t.cast trips6)).val] := by
  decide +kernel

theorem off17_eq : ∀ (d : Dev nD) (t : Fin k0_t6_loop.trips), k0_off17 d t = ![32 * (turn d (t.cast trips6)).val, 0] := by
  decide +kernel

theorem off18_eq : ∀ (d : Dev nD) (t : Fin k0_t7_loop.trips), k0_off18 d t = ![(turn d (t.cast trips7)).val] := by
  decide +kernel

/-- The device a trip of the first sixteen sends addresses, -/
def low (t : Fin k0_t2_loop.trips) : Dev nD := ⟨t.val, Nat.lt_of_lt_of_le t.isLt (by rw [trips2]; decide)⟩
/-- and a trip of the last sixteen. -/
def high (t : Fin k0_t3_loop.trips) : Dev nD := ⟨t.val + 16, Nat.lt_of_lt_of_le (Nat.add_lt_add_right t.isLt 16) (by rw [trips3])⟩

theorem cond1_iff : ∀ (d : Dev nD) (t : Fin k0_t2_loop.trips), k0_cond1 d t = 1#1 ↔ low t ≠ d := by
  decide +kernel

theorem cond2_iff : ∀ (d : Dev nD) (t : Fin k0_t3_loop.trips), k0_cond2 d t = 1#1 ↔ high t ≠ d := by
  decide +kernel

theorem dev2_eq : ∀ t : Fin k0_t2_loop.trips, k0_dev2 t = (low t).val := by decide +kernel
theorem dev3_eq : ∀ t : Fin k0_t3_loop.trips, k0_dev3 t = (high t).val := by decide +kernel
theorem off1_eq : ∀ t : Fin k0_t2_loop.trips, k0_off1 t = ![(low t).val] := by decide +kernel
theorem off4_eq : ∀ t : Fin k0_t2_loop.trips, k0_off4 t = ![32 * (low t).val, 0] := by decide +kernel
theorem off5_eq : ∀ t : Fin k0_t3_loop.trips, k0_off5 t = ![(high t).val] := by decide +kernel
theorem off8_eq : ∀ t : Fin k0_t3_loop.trips, k0_off8 t = ![32 * (high t).val, 0] := by decide +kernel
theorem off2_eq : ∀ d : Dev nD, k0_off2 d = ![d.val] := by decide +kernel
theorem off3_eq : ∀ d : Dev nD, k0_off3 d = ![d.val, 0, 0] := by decide +kernel
theorem off6_eq : ∀ d : Dev nD, k0_off6 d = ![d.val] := by decide +kernel
theorem off7_eq : ∀ d : Dev nD, k0_off7 d = ![d.val, 0, 0] := by decide +kernel
theorem off10_eq : ∀ d : Dev nD, k0_off10 d = ![d.val, 0, 0] := by decide +kernel
theorem off14_eq : ∀ d : Dev nD, k0_off14 d = ![d.val] := by decide +kernel

end Cert.KernelIdeal
-- ==== Proof.Cells.lean ====
/-
The semaphores of the exchange, the slices of the three scratch buffers it moves, and how each buffer is the
union of its slices.
-/
module

public import proofs.«01_k».proof.Proof.Index
public import Idealize.ShloMosaic.Lib.ValueLayout
public import Idealize.ShloMosaic.Lib.Ring

@[expose] public section

noncomputable section

namespace Cert.KernelIdeal

open Idealize.ShloMosaic Idealize.ShloMosaic.ValueIdx

/-! ## The semaphores -/

/-- The barrier's semaphore, as the body names it. -/
abbrev barSem : Sem sig := (SemArray.scalar (d := ![]) (sig.barrier 0 rfl)).sem

/-- The send semaphore of the transfer of one partial product to device `p`, -/
def sendA (p : Dev nD) : DmaSem sig := cc0_scratch3.ix (ix1 p)
/-- the receive semaphore of the partial product from `p`, -/
def recvA (p : Dev nD) : DmaSem sig := cc0_scratch4.ix (ix1 p)
/-- the send semaphore of the reduced rows to `p`, -/
def sendB (p : Dev nD) : DmaSem sig := cc0_scratch5.ix (ix1 p)
/-- and the receive semaphore of the reduced rows of `p`. -/
def recvB (p : Dev nD) : DmaSem sig := cc0_scratch6.ix (ix1 p)

theorem one_inb (p : Dev nD) : ∀ a, ((![p.val] : Fin 1 → ℕ)) a + S1.size a ≤ S32.size a := by
  intro a
  match a with
  | ⟨0, _⟩ => exact p.isLt

/-- A slice of one semaphore, squeezed, is the semaphore at its offset. -/
theorem sem_at (arr : DmaSems sig S32) {off : Fin 1 → ℕ} (p : Dev nD) (h : off = ![p.val])
    (inb : ∀ a, off a + S1.size a ≤ S32.size a) (hs) :
    ((SemArray.slice arr (Rect.unit (s := S32) off S1.size inb)).squeeze S_ hs).sem = arr.ix (ix1 p) := by
  subst h
  have hone : ∀ i : S32.Idx, i 0 = p → i = ix1 p := by
    intro i hi
    funext a
    match a with
    | ⟨0, _⟩ => exact hi
  show arr.ix _ = _
  refine congrArg arr.ix (hone _ (Fin.ext ?_))
  have h1 : ∀ j : S1.Idx, (j 0).val = 0 := fun j => by have h : (j 0).val < 1 := (j 0).isLt; omega
  show p.val + 1 * _ = p.val
  rw [h1, Nat.mul_zero, Nat.add_zero]

/-! ## The slices -/

theorem rows_inb (p : Dev nD) : ∀ a, (![32 * p.val, 0] : Fin 2 → ℕ) a + S32x768.size a ≤ S1024x768.size a := by
  intro a
  have h : p.val < 32 := p.isLt
  match a with
  | ⟨0, _⟩ => show 32 * p.val + 32 ≤ 1024; omega
  | ⟨1, _⟩ => show 0 + 768 ≤ 768; omega

theorem slot_inb (p : Dev nD) : ∀ a, (![p.val, 0, 0] : Fin 3 → ℕ) a + S1x32x768.size a ≤ S32x32x768.size a := by
  intro a
  have h : p.val < 32 := p.isLt
  match a with
  | ⟨0, _⟩ => show p.val + 1 ≤ 32; omega
  | ⟨1, _⟩ => show 0 + 32 ≤ 32; omega
  | ⟨2, _⟩ => show 0 + 768 ≤ 768; omega

/-- The 32 rows of a buffer of 1024 that are device `p`'s. -/
abbrev rowsR (p : Dev nD) : Rect S1024x768 := Rect.unit (s := S1024x768) ![32 * p.val, 0] S32x768.size (rows_inb p)
abbrev slotR (p : Dev nD) : Rect S32x32x768 := Rect.unit (s := S32x32x768) ![p.val, 0, 0] S1x32x768.size (slot_inb p)

/-- Device `p`'s rows of the partial product, -/
abbrev accRows (p : Dev nD) : Memref sig .tc .vmem S32x768 .bf16 :=
  (Memref.whole cc0_scratch0).slice (rowsR p) (fun _ => rfl)
/-- device `p`'s rows of the result, -/
abbrev resRows (p : Dev nD) : Memref sig .tc .vmem S32x768 .bf16 :=
  (Memref.whole cc0_scratch2).slice (rowsR p) (fun _ => rfl)
/-- and the slot of the gathered products that device `p` fills. -/
abbrev slotOf (p : Dev nD) : Memref sig .tc .vmem S32x768 .bf16 :=
  ((Memref.whole cc0_scratch1).slice (slotR p) (fun _ => rfl)).squeeze S32x768 Gen.facts.squeezes_S1x32x768_S32x768

/-- The row of the whole that row `x` of device `p`'s rows is. -/
def rowIx (p : Dev nD) (x : S32x768.Idx) : S1024x768.Idx :=
  ix2 (⟨32 * p.val + (x 0).val, by have h : p.val < 32 := p.isLt; have h' : (x 0).val < 32 := (x 0).isLt; omega⟩ : Fin 1024) (x 1)
/-- The place of the gathered products that entry `x` of slot `p` is. -/
def slotIx (p : Dev nD) (x : S32x768.Idx) : S32x32x768.Idx := ix3 (p : Fin 32) (x 0) (x 1)

theorem emb_rowsR (p : Dev nD) (x : S32x768.Idx) : (rowsR p).emb x = rowIx p x := by
  funext a
  apply Fin.ext
  match a with
  | ⟨0, _⟩ => show 32 * p.val + 1 * (x 0).val = _; rw [Nat.one_mul]; rfl
  | ⟨1, _⟩ => show 0 + 1 * (x 1).val = _; rw [Nat.one_mul, Nat.zero_add]; rfl

theorem emb_accRows (p : Dev nD) (x : S32x768.Idx) : (accRows p).view.emb x = rowIx p x := emb_rowsR p x
theorem emb_resRows (p : Dev nD) (x : S32x768.Idx) : (resRows p).view.emb x = rowIx p x := emb_rowsR p x

theorem emb_slotOf (p : Dev nD) (x : S32x768.Idx) : (slotOf p).view.emb x = slotIx p x := by
  show (slotR p).emb (Shape.reshapeEquiv (s := S1x32x768) (s' := S32x768) _ x) = _
  have hx : x = ix2 (x 0) (x 1) := by
    funext a
    match a with
    | ⟨0, _⟩ => rfl
    | ⟨1, _⟩ => rfl
  rw [hx]
  erw [reshapeEquiv_ix2_1ab]
  funext a
  apply Fin.ext
  match a with
  | ⟨0, _⟩ => show p.val + 1 * 0 = _; rfl
  | ⟨1, _⟩ => show 0 + 1 * (x 0).val = _; rw [Nat.one_mul, Nat.zero_add]; rfl
  | ⟨2, _⟩ => show 0 + 1 * (x 1).val = _; rw [Nat.one_mul, Nat.zero_add]; rfl

/-- The device whose rows a row of the whole is among, -/
def rowOwner (i : S1024x768.Idx) : Dev nD := ⟨(i 0).val / 32, by have h : (i 0).val < 1024 := (i 0).isLt; show _ < 32; omega⟩
/-- the row among them, -/
def rowIn (i : S1024x768.Idx) : S32x768.Idx :=
  ix2 (⟨(i 0).val % 32, Nat.mod_lt _ (by decide)⟩ : Fin 32) (i 1)
/-- the device whose slot a place of the gathered products is in. -/
def slotOwner (i : S32x32x768.Idx) : Dev nD := i 0
def slotIn (i : S32x32x768.Idx) : S32x768.Idx := ix2 (i 1) (i 2)

theorem rowIx_eta (i : S1024x768.Idx) : rowIx (rowOwner i) (rowIn i) = i := by
  funext a
  apply Fin.ext
  match a with
  | ⟨0, _⟩ => show 32 * ((i 0).val / 32) + (i 0).val % 32 = _; exact Nat.div_add_mod _ _
  | ⟨1, _⟩ => rfl
theorem rowOwner_rowIx (p : Dev nD) (x : S32x768.Idx) : rowOwner (rowIx p x) = p := by
  apply Fin.ext
  have h' : (x 0).val < 32 := (x 0).isLt
  show (32 * p.val + (x 0).val) / 32 = p.val
  omega
theorem rowIn_rowIx (p : Dev nD) (x : S32x768.Idx) : rowIn (rowIx p x) = x := by
  funext a
  apply Fin.ext
  have h' : (x 0).val < 32 := (x 0).isLt
  match a with
  | ⟨0, _⟩ => show (32 * p.val + (x 0).val) % 32 = (x 0).val; omega
  | ⟨1, _⟩ => rfl
theorem slotIx_eta (i : S32x32x768.Idx) : slotIx (slotOwner i) (slotIn i) = i := by
  funext a
  match a with
  | ⟨0, _⟩ => rfl
  | ⟨1, _⟩ => rfl
  | ⟨2, _⟩ => rfl
theorem slotIn_slotIx (p : Dev nD) (x : S32x768.Idx) : slotIn (slotIx p x) = x := by
  funext a
  match a with
  | ⟨0, _⟩ => rfl
  | ⟨1, _⟩ => rfl

/-- The places of device `p`'s rows, and of its slot. -/
def rowSet (p : Dev nD) : Finset S1024x768.Idx := Finset.univ.filter fun i => rowOwner i = p
def slotSet (p : Dev nD) : Finset S32x32x768.Idx := Finset.univ.filter fun i => slotOwner i = p

theorem mem_rowSet {p : Dev nD} {i : S1024x768.Idx} : i ∈ rowSet p ↔ rowOwner i = p := by simp [rowSet]
theorem mem_slotSet {p : Dev nD} {i : S32x32x768.Idx} : i ∈ slotSet p ↔ slotOwner i = p := by simp [slotSet]

theorem map_rows (p : Dev nD) (e : S32x768.Idx ↪ S1024x768.Idx) (he : ∀ x, e x = rowIx p x) :
    Finset.univ.map e = rowSet p := by
  ext i
  rw [Finset.mem_map, mem_rowSet]
  constructor
  · rintro ⟨x, -, rfl⟩; rw [he]; exact rowOwner_rowIx p x
  · rintro rfl; exact ⟨rowIn i, Finset.mem_univ _, by rw [he]; exact rowIx_eta i⟩

theorem map_slot (p : Dev nD) (e : S32x768.Idx ↪ S32x32x768.Idx) (he : ∀ x, e x = slotIx p x) :
    Finset.univ.map e = slotSet p := by
  ext i
  rw [Finset.mem_map, mem_slotSet]
  constructor
  · rintro ⟨x, -, rfl⟩; rw [he]; rfl
  · intro h; subst h; exact ⟨slotIn i, Finset.mem_univ _, by rw [he]; exact slotIx_eta i⟩

theorem set_accRows (p : Dev nD) : (accRows p).view.set = rowSet p := map_rows p _ (emb_accRows p)
theorem set_resRows (p : Dev nD) : (resRows p).view.set = rowSet p := map_rows p _ (emb_resRows p)
theorem set_slotOf (p : Dev nD) : (slotOf p).view.set = slotSet p := map_slot p _ (emb_slotOf p)

theorem rowSet_disjoint : ∀ p q : Dev nD, p ≠ q → Disjoint (rowSet p) (rowSet q) := fun p q h =>
  Finset.disjoint_left.mpr fun i hp hq => h ((mem_rowSet.mp hp).symm.trans (mem_rowSet.mp hq))
theorem slotSet_disjoint : ∀ p q : Dev nD, p ≠ q → Disjoint (slotSet p) (slotSet q) := fun p q h =>
  Finset.disjoint_left.mpr fun i hp hq => h ((mem_slotSet.mp hp).symm.trans (mem_slotSet.mp hq))
theorem rowSet_cover : (Finset.univ : Finset (Dev nD)).biUnion rowSet = Finset.univ := by
  ext i; simp [mem_rowSet]
theorem slotSet_cover : (Finset.univ : Finset (Dev nD)).biUnion slotSet = Finset.univ := by
  ext i; simp [mem_slotSet]

end Cert.KernelIdeal
-- ==== Proof.Sched.lean ====
/-
The rounds of the exchange: one round on every cell.

Device `c`'s barrier cell is raised by every other device, which with its unit hands `c` the slot and the rows it
keeps for `c`'s data and the news that its receive cells for `c` are open. A receive cell is raised by the copy
that fills it, a send cell by the copy that has read its source.
-/
module

public import proofs.«01_k».proof.Proof.Cells
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.ShareLeaves
public import Idealize.ShloMosaic.Lib.StableHlo
public import Idealize.ShloMosaic.Lib.Tactic
public import Idealize.ShloMosaic.PureOps

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The cells -/

/-- The four arrays of semaphores, one semaphore for each device: sends and receives of the partial products (0, 1),
    sends and receives of the reduced rows (2, 3). -/
def dsem (k : Fin 4) (p : Dev nD) : DmaSem sig :=
  ⟨6 + 32 * k.val + p.val, by have h : p.val < 32 := p.isLt; have := k.isLt; show _ < 134; omega⟩

theorem dsem0 : ∀ p : Dev nD, cc0_scratch3.ix (ValueIdx.ix1 p) = dsem 0 p := by decide +kernel
theorem dsem1 : ∀ p : Dev nD, cc0_scratch4.ix (ValueIdx.ix1 p) = dsem 1 p := by decide +kernel
theorem dsem2 : ∀ p : Dev nD, cc0_scratch5.ix (ValueIdx.ix1 p) = dsem 2 p := by decide +kernel
theorem dsem3 : ∀ p : Dev nD, cc0_scratch6.ix (ValueIdx.ix1 p) = dsem 3 p := by decide +kernel

/-- The array a semaphore is of, and the device it is for. -/
def famOf (s : DmaSem sig) : Fin 4 := ⟨(s.val - 6) / 32 % 4, Nat.mod_lt _ (by decide)⟩
def peerOf (s : DmaSem sig) : Dev nD := ⟨(s.val - 6) % 32, Nat.mod_lt _ (by decide)⟩

theorem famOf_dsem (k : Fin 4) (p : Dev nD) : famOf (dsem k p) = k := by
  apply Fin.ext
  have h : p.val < 32 := p.isLt
  have h' := k.isLt
  show (6 + 32 * k.val + p.val - 6) / 32 % 4 = k.val
  omega
theorem peerOf_dsem (k : Fin 4) (p : Dev nD) : peerOf (dsem k p) = p := by
  apply Fin.ext
  have h : p.val < 32 := p.isLt
  show (6 + 32 * k.val + p.val - 6) % 32 = p.val
  omega
theorem six_le_dsem (k : Fin 4) (p : Dev nD) : 6 ≤ (dsem k p).val := by
  show 6 ≤ 6 + 32 * k.val + p.val
  omega
theorem dsem_of (s : DmaSem sig) (h : 6 ≤ s.val) : dsem (famOf s) (peerOf s) = s := by
  apply Fin.ext
  have h' : s.val < 134 := s.isLt
  show 6 + 32 * ((s.val - 6) / 32 % 4) + (s.val - 6) % 32 = s.val
  omega

abbrev barCell (c : Dev nD) : GSem nD τ sig := ((c : Thread nD τ), .reg barSem)
abbrev cell (k : Fin 4) (c p : Dev nD) : GSem nD τ sig := ((c : Thread nD τ), .dma (dsem k p))

/-- What one transfer of 32 rows raises its two semaphores by. -/
abbrev N : ℕ := (slotOf 0).view.dmaCredit
theorem N_pos : 0 < N := View.dmaCredit_pos _ (by decide)

/-! ## What the buffers hold -/

/-- The gathered products on device `c`, when device `s`'s partial product is `A s`: in slot `s`, the rows of
    `A s` that are `c`'s. -/
def gath (A : Dev nD → cc0_scratch0.ty.Contents (Elt F)) (c : Dev nD) : cc0_scratch1.ty.Contents (Elt F) :=
  fun i => A (slotOwner i) (rowIx c (slotIn i))

variable [FloatOps F]

/-- Device `c`'s rows of the result: the sum of the gathered products. -/
def red (A : Dev nD → cc0_scratch0.ty.Contents (Elt F)) (c : Dev nD) : Vec F S32x768 .bf16 :=
  Gen.k0_pay34 (gath A c)

/-- The result, every device's rows of it. -/
def total (A : Dev nD → cc0_scratch0.ty.Contents (Elt F)) : cc0_scratch2.ty.Contents (Elt F) :=
  fun i => red A (rowOwner i) (rowIn i)

/-! ## The resources -/

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-- Device `c`'s rows `p` of the partial product, of the result, and its slot `p`, owned at a share. -/
abbrev accPt (c p : Dev nD) (q : PosShare TreeShare) (f : cc0_scratch0.ty.Contents (Elt F)) : sProp 𝕄 :=
  (accRows p).view.loc (c : Thread nD τ) ↦[(accRows p).view.set]{q} f
abbrev slotPt (c p : Dev nD) (q : PosShare TreeShare) (f : cc0_scratch1.ty.Contents (Elt F)) : sProp 𝕄 :=
  (slotOf p).view.loc (c : Thread nD τ) ↦[(slotOf p).view.set]{q} f
abbrev resPt (c p : Dev nD) (q : PosShare TreeShare) (f : cc0_scratch2.ty.Contents (Elt F)) : sProp 𝕄 :=
  (resRows p).view.loc (c : Thread nD τ) ↦[(resRows p).view.set]{q} f

/-- The thirty-second part of a buffer's ownership that reads for device `p`. -/
def part (p : Dev nD) : PosShare TreeShare := ShareLeaves.leaf 5 fullShare (Fin.cast rfl p)

/-- What device `d` hands device `c` with its unit on `c`'s barrier. -/
def barPay (c d : Dev nD) : sProp 𝕄 :=
  iprop((∃ f, slotPt d c fullShare f) ∗ (∃ f, resPt d c fullShare f)
    ∗ reached ER (cell 1 d c) 0 ∗ reached ER (cell 3 d c) 0)

variable (A : Dev nD → cc0_scratch0.ty.Contents (Elt F))

/-- What the other cells are paid with. -/
def pay (k : Fin 4) (c p : Dev nD) : sProp 𝕄 :=
  match k with
  | 0 => accPt c p fullShare (A c)
  | 1 => slotPt c p fullShare (gath A c)
  | 2 => resPt c c (part p) (total A)
  | 3 => resPt c p fullShare (total A)

instance barPay_storable (c d : Dev nD) : BI.Storable (upEmb : UEmb _ 𝕄) (barPay (F := F) c d) := by
  unfold barPay; infer_instance
instance pay_storable (k : Fin 4) (c p : Dev nD) : BI.Storable (upEmb : UEmb _ 𝕄) (pay A k c p) := by
  unfold pay; split <;> infer_instance

/-- The duties of a semaphore on device `c`. -/
def dutiesOf (c : Dev nD) (sm : SemLoc sig) : Finset (Dev nD) :=
  match sm with
  | .reg _ => Finset.univ.erase c
  | .dma s => if 6 ≤ s.val then ({peerOf s} : Finset (Dev nD)).erase c else ∅

def amountOn (sm : SemLoc sig) : ℕ :=
  match sm with
  | .reg _ => 1
  | .dma _ => N

def payOf (c : Dev nD) (sm : SemLoc sig) (d : Dev nD) : sProp 𝕄 :=
  match sm with
  | .reg _ => barPay c d
  | .dma s => pay A (famOf s) c (peerOf s)

def talk : Rounds.Schedule (GSem nD τ sig) (Dev nD) 𝕄 where
  duties g r := if r = 0 ∧ g.1.2 = .tc then dutiesOf g.1.1 g.2 else ∅
  unitless _ := False
  amount g _ _ := amountOn g.2
  payload g _ d := payOf A g.1.1 g.2 d
  amount_pos g _ _ _ := by
    show 0 < amountOn g.2
    unfold amountOn
    split
    · exact Nat.one_pos
    · exact N_pos

instance talk_storable (g : GSem nD τ sig) (r : ℕ) (d : Dev nD) :
    BI.Storable (upEmb : UEmb _ 𝕄) ((talk A).payload g r d) := by
  show BI.Storable upEmb (payOf A g.1.1 g.2 d)
  unfold payOf
  split <;> infer_instance

theorem duties_bar (c : Dev nD) : (talk A).duties (barCell c) 0 = Finset.univ.erase c := by
  dsimp only [talk]
  rw [if_pos ⟨rfl, rfl⟩]
  rfl
theorem duties_cell (k : Fin 4) (c p : Dev nD) : (talk A).duties (cell k c p) 0 = ({p} : Finset (Dev nD)).erase c := by
  dsimp only [talk]
  rw [if_pos ⟨rfl, rfl⟩]
  dsimp only [dutiesOf]
  rw [if_pos (six_le_dsem k p), peerOf_dsem]
theorem duties_other (k : Fin 4) (c p : Dev nD) (h : p ≠ c) : (talk A).duties (cell k c p) 0 = {p} := by
  rw [duties_cell, Finset.erase_eq_of_notMem (by simpa using fun h' => h h'.symm)]
theorem duties_own (k : Fin 4) (c : Dev nD) (r : ℕ) : (talk A).duties (cell k c c) r = ∅ := by
  by_cases hr : r = 0
  · subst hr; rw [duties_cell]; simp
  · dsimp only [talk]; exact if_neg fun h => hr h.1
theorem duties_later (g : GSem nD τ sig) : ∀ r, 1 ≤ r → (talk A).duties g r = ∅ :=
  fun r hr => by dsimp only [talk]; exact if_neg fun h => by omega

theorem amount_bar (c d : Dev nD) : (talk A).amount (barCell c) 0 d = 1 := rfl
theorem amount_cell (k : Fin 4) (c p d : Dev nD) : (talk A).amount (cell k c p) 0 d = N := rfl

theorem expect_bar (c : Dev nD) : (talk A).expect (barCell c) 0 = 31 := by
  unfold Schedule.expect Schedule.amountOf
  rw [duties_bar, Finset.sum_congr rfl fun d _ => amount_bar A c d, Finset.sum_const,
    Finset.card_erase_of_mem (Finset.mem_univ _)]
  rfl
theorem expect_cell (k : Fin 4) (c p : Dev nD) (h : p ≠ c) : (talk A).expect (cell k c p) 0 = N := by
  unfold Schedule.expect Schedule.amountOf
  rw [duties_other A k c p h, Finset.sum_singleton, amount_cell]

theorem payload_bar (c d : Dev nD) : (talk A).payload (barCell c) 0 d = barPay c d := rfl
theorem payload_cell (k : Fin 4) (c p d : Dev nD) : (talk A).payload (cell k c p) 0 d = pay A k c p := by
  show pay A (famOf (dsem k p)) c (peerOf (dsem k p)) = _
  rw [famOf_dsem, peerOf_dsem]

theorem rest_bar (c : Dev nD) :
    bigSep ((talk A).duties (barCell c) 0 \ ∅) (fun d => (talk A).payload (barCell c) 0 d)
      = bigSep (Finset.univ.erase c) (fun d => barPay c d) := by
  rw [Finset.sdiff_empty, duties_bar]; rfl
theorem rest_cell (k : Fin 4) (c p : Dev nD) (h : p ≠ c) :
    bigSep ((talk A).duties (cell k c p) 0 \ ∅) (fun d => (talk A).payload (cell k c p) 0 d) = pay A k c p := by
  rw [Finset.sdiff_empty, duties_other A k c p h, bigSep_singleton, payload_cell]

/-! ## What a device owes, and the order of the waits -/

/-- What device `c` owes the other devices: its unit on each one's barrier, and its data on each one's two receive
    cells for it. -/
def owedBar (S : Finset (Dev nD)) : CellTallies nD τ sig Unit := ∑ p ∈ S, tallyAt (barCell p) () 1
def owedAt (k : Fin 4) (c : Dev nD) (S : Finset (Dev nD)) : CellTallies nD τ sig Unit :=
  ∑ p ∈ S, tallyAt (cell k p c) () N

def O₀ (c : Dev nD) : CellTallies nD τ sig Unit :=
  owedBar (Finset.univ.erase c) + (owedAt 1 c (Finset.univ.erase c) + owedAt 3 c (Finset.univ.erase c))

def L (g : GSem nD τ sig) : Finset Unit := if g.1.2 = .tc then {()} else ∅
def famLv : Fin 4 → ℕ := ![0, 2, 0, 3]
/-- Barriers at 1, the receive cells at 2 and 3, every other semaphore at 0. -/
def lvOf (sm : SemLoc sig) : ℕ :=
  match sm with
  | .reg _ => 1
  | .dma s => if 6 ≤ s.val then famLv (famOf s) else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_cell (k : Fin 4) (c p : Dev nD) (u : Unit) :
    lv (cell k c p) u = famLv k := by
  dsimp only [lv, lvOf]
  rw [if_pos (six_le_dsem k p), famOf_dsem]

/-- A sum of tallies is positive only at one of its cells. -/
theorem sum_tally_pos {ι : Type} (S : Finset ι) (g : ι → GSem nD τ sig) (n : ℕ) (x : GSem nD τ sig) (u : Unit)
    (h : 0 < (∑ i ∈ S, tallyAt (g i) () n : CellTallies nD τ sig Unit) x u) : ∃ i ∈ S, x = g i := by
  classical
  induction S using Finset.induction_on with
  | empty => simp at h
  | insert a S ha ih =>
    rw [Finset.sum_insert ha] at h
    by_cases hx : x = g a
    · exact ⟨a, Finset.mem_insert_self _ _, hx⟩
    · have h0 : (tallyAt (g a) () n : CellTallies nD τ sig Unit) x u = 0 := by
        rw [tallyAt_apply, if_neg fun h => hx h.1]
      have h1 : 0 < (∑ i ∈ S, tallyAt (g i) () n : CellTallies nD τ sig Unit) x u := by
        rw [Pi.add_apply, Finsupp.add_apply, h0, Nat.zero_add] at h; exact h
      obtain ⟨i, hi, e⟩ := ih h1
      exact ⟨i, Finset.mem_insert_of_mem hi, e⟩

end Cert.KernelIdeal
-- ==== Proof.Trips.lean ====
/-
Loops in which every trip takes one resource and gives another, and the ways the other devices are gone through:
by their places after a device, and in two halves of sixteen.
-/
module

public import proofs.«01_k».proof.Proof.Sched
public import Idealize.ShloMosaic.Lib.Scf

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Trips still to come and trips made -/

def toCome {n : ℕ} (k : ℕ) : Finset (Fin n) := Finset.univ.filter fun t => k ≤ t.val
def made {n : ℕ} (k : ℕ) : Finset (Fin n) := Finset.univ.filter fun t => t.val < k

theorem toCome_zero {n : ℕ} : toCome (n := n) 0 = Finset.univ := Finset.filter_true_of_mem fun _ _ => Nat.zero_le _
theorem made_zero {n : ℕ} : made (n := n) 0 = ∅ := Finset.filter_false_of_mem fun _ _ h => absurd h (Nat.not_lt_zero _)
theorem toCome_all {n : ℕ} : toCome (n := n) n = ∅ :=
  Finset.filter_false_of_mem fun t _ h => absurd t.isLt (Nat.not_lt.mpr h)
theorem made_all {n : ℕ} : made (n := n) n = Finset.univ := Finset.filter_true_of_mem fun t _ => t.isLt
theorem toCome_at {n : ℕ} (t : Fin n) : toCome (n := n) t.val = insert t (toCome (t.val + 1)) := by
  ext s
  simp only [toCome, Finset.mem_filter, Finset.mem_univ, true_and, Finset.mem_insert, Fin.ext_iff]
  omega
theorem notMem_toCome {n : ℕ} (t : Fin n) : t ∉ toCome (n := n) (t.val + 1) := by simp [toCome]
theorem made_at {n : ℕ} (t : Fin n) : made (n := n) (t.val + 1) = insert t (made t.val) := by
  ext s
  simp only [made, Finset.mem_filter, Finset.mem_univ, true_and, Finset.mem_insert, Fin.ext_iff]
  omega
theorem notMem_made {n : ℕ} (t : Fin n) : t ∉ made (n := n) t.val := by simp [made]

section Sep

variable {M : Type} [URA M]

theorem toCome_split {n : ℕ} (Φ : Fin n → sProp M) (t : Fin n) :
    bigSep (toCome t.val) Φ = iprop(Φ t ∗ bigSep (toCome (t.val + 1)) Φ) := by
  rw [toCome_at, bigSep_insert (notMem_toCome t)]; rfl
theorem made_join {n : ℕ} (Φ : Fin n → sProp M) (t : Fin n) :
    bigSep (made (t.val + 1)) Φ = iprop(Φ t ∗ bigSep (made t.val) Φ) := by
  rw [made_at, bigSep_insert (notMem_made t)]; rfl

theorem sep_turn (c : Dev nD) (Φ : Dev nD → sProp M) :
    bigSep (Finset.univ.erase c) Φ = bigSep (Finset.univ : Finset (Fin 31)) (fun t => Φ (turn c t)) := by
  rw [← image_turn c, show Finset.univ.image (turn c) = Finset.univ.map ⟨turn c, turn_inj c⟩ from
    (Finset.map_eq_image ⟨turn c, turn_inj c⟩ Finset.univ).symm,
    bigSep_map]
  rfl

/-- The two halves of the devices. -/
def loD (t : Fin 16) : Dev nD := ⟨t.val, Nat.lt_of_lt_of_le t.isLt (by decide)⟩
def hiD (t : Fin 16) : Dev nD := ⟨t.val + 16, Nat.lt_of_lt_of_le (Nat.add_lt_add_right t.isLt 16) (by decide)⟩

def halves : Fin 16 ⊕ Fin 16 ≃ Dev nD where
  toFun := Sum.elim loD hiD
  invFun p := if h : p.val < 16 then .inl ⟨p.val, h⟩ else .inr ⟨p.val - 16, by have h' : p.val < 32 := p.isLt; omega⟩
  left_inv := by
    rintro (t | t)
    · exact dif_pos t.isLt
    · refine (dif_neg (show ¬ t.val + 16 < 16 by omega)).trans (congrArg Sum.inr (Fin.ext ?_))
      exact Nat.add_sub_cancel _ _
  right_inv := by
    intro p
    by_cases h : p.val < 16
    · refine (congrArg (Sum.elim loD hiD) (dif_pos h)).trans rfl
    · refine (congrArg (Sum.elim loD hiD) (dif_neg h)).trans (Fin.ext ?_)
      exact Nat.sub_add_cancel (Nat.not_lt.mp h)

theorem sep_halves (Φ : Dev nD → sProp M) :
    bigSep Finset.univ Φ = iprop(bigSep Finset.univ (fun t : Fin 16 => Φ (loD t)) ∗ bigSep Finset.univ (fun t : Fin 16 => Φ (hiD t))) := by
  rw [bigSep_univ_equiv halves, bigSep_univ_sum]; rfl

/-- `Φ p`, for the devices other than `c`. -/
def other (c : Dev nD) (Φ : Dev nD → sProp M) (p : Dev nD) : sProp M := if p ≠ c then Φ p else BI.emp

theorem other_ne {c p : Dev nD} (h : p ≠ c) (Φ : Dev nD → sProp M) : other c Φ p = Φ p := if_pos h
theorem other_self (c : Dev nD) (Φ : Dev nD → sProp M) : other c Φ c = BI.emp := if_neg fun h => h rfl

theorem sep_other (c : Dev nD) (Φ : Dev nD → sProp M) : bigSep (Finset.univ.erase c) Φ = bigSep Finset.univ (other c Φ) := by
  rw [show (Finset.univ.erase c : Finset (Dev nD)) = Finset.univ.filter (fun p => p ≠ c) from by ext p; simp, bigSep_filter]
  rfl

end Sep

/-! ## The same of sums -/

section Sum

variable {M : Type} [AddCommMonoid M]

theorem sum_toCome {n : ℕ} (f : Fin n → M) (t : Fin n) : ∑ s ∈ toCome t.val, f s = f t + ∑ s ∈ toCome (t.val + 1), f s := by
  rw [toCome_at, Finset.sum_insert (notMem_toCome t)]
theorem sum_turn (c : Dev nD) (f : Dev nD → M) : ∑ p ∈ Finset.univ.erase c, f p = ∑ t : Fin 31, f (turn c t) := by
  rw [← image_turn c, Finset.sum_image fun _ _ _ _ h => turn_inj c h]
theorem sum_halves (f : Dev nD → M) : ∑ p, f p = ∑ t : Fin 16, f (loD t) + ∑ t : Fin 16, f (hiD t) := by
  rw [← Equiv.sum_comp halves, Fintype.sum_sum_type]; rfl
def otherV (c : Dev nD) (f : Dev nD → M) (p : Dev nD) : M := if p ≠ c then f p else 0
theorem sum_other (c : Dev nD) (f : Dev nD → M) : ∑ p ∈ Finset.univ.erase c, f p = ∑ p, otherV c f p := by
  rw [show (Finset.univ.erase c : Finset (Dev nD)) = Finset.univ.filter (fun p => p ≠ c) from by ext p; simp, Finset.sum_filter]
  rfl

end Sum

/-! ## The loop rule -/

section Loop

variable {M : Type} [URA M] {E : Type → Type} {Mask : Type} (Fr : Mask → sProp M)
  (wpE : Mask → ∀ ⦃β : Type⦄, E β → sWPT M β) (Es : Mask)
variable [∀ ⦃β : Type⦄ (e : E β), sWPT.Frameable (wpE Es e)]

/-- A loop whose trip `t` turns `Φ t` into `Ψ t`, with `P` at hand throughout and `R` going from one trip to the next,
    turns every `Φ t` into `Ψ t`. -/
theorem wp_each {n : ℕ} {l : Scf.Loop 32} (hok : l.OK) (hn : l.trips = n) (body : Fin l.trips → PUnit → Prog E PUnit)
    (P : sProp M) [BI.Persistent P] (Φ Ψ : Fin n → sProp M) (R : ℕ → sProp M)
    (hbody : ∀ t : Fin l.trips, iprop(P ∗ Φ (t.cast hn) ∗ R t.val)
      ⊢ wp Fr wpE Es (body t ⟨⟩) (fun _ => iprop(Ψ (t.cast hn) ∗ R (t.val + 1))))
    {β : Type} {kk : PUnit → Prog E β} {Q : β → sProp M} :
    iprop(P ∗ bigSep Finset.univ Φ ∗ R 0)
      ⊢ iprop(((bigSep Finset.univ Ψ ∗ R n) -∗ wp Fr wpE Es (kk ⟨⟩) Q) -∗ wp Fr wpE Es (Scf.Loop.for l hok ⟨⟩ body >>= kk) Q) := by
  subst hn
  have hstep : ∀ (t : Fin l.trips) (_ : PUnit), iprop(P ∗ bigSep (toCome t.val) Φ ∗ bigSep (made t.val) Ψ ∗ R t.val)
      ⊢ wp Fr wpE Es (body t ⟨⟩)
        (fun _ => iprop(P ∗ bigSep (toCome (t.val + 1)) Φ ∗ bigSep (made (t.val + 1)) Ψ ∗ R (t.val + 1))) := by
    intro t _
    have hb : iprop(P ∗ Φ t ∗ R t.val) ⊢ wp Fr wpE Es (body t ⟨⟩) (fun _ => iprop(Ψ t ∗ R (t.val + 1))) := hbody t
    rw [toCome_split, made_join]
    iintro ⟨#HP, ⟨HΦ, HΦs⟩, HΨs, HR⟩
    iapply (wp_wand_r Fr wpE Es)
    isplitl [HΦ HR]
    · iapply hb
      isplitr; · iexact HP
      isplitl [HΦ]; · iexact HΦ
      iexact HR
    iintro %_ ⟨HΨ, HR⟩
    isplitr; · iexact HP
    isplitl [HΦs]; · iexact HΦs
    isplitr [HR]
    · isplitl [HΨ] <;> iassumption
    iexact HR
  iintro ⟨#HP, HΦ, HR⟩ HK
  iapply (Scf.wp_for_bind Fr wpE Es l.lb l.ub l.st hok ⟨⟩ body
    (fun k _ => iprop(P ∗ bigSep (toCome k) Φ ∗ bigSep (made k) Ψ ∗ R k)) hstep) $$ [HΦ HR]
  · rw [toCome_zero, made_zero, bigSep_empty]
    isplitr; · iexact HP
    isplitl [HΦ]; · iexact HΦ
    isplitr; · iempintro
    iexact HR
  · iintro %_ ⟨-, -, HΨ, HR⟩
    iapply HK
    rw [show made (Scf.trips l.lb l.ub l.st) = (Finset.univ : Finset (Fin l.trips)) from made_all]
    isplitl [HΨ] <;> iassumption

end Loop

end Cert.KernelIdeal
-- ==== Proof.Moves.lean ====
/-
The single moves of the exchange: a unit to another device's barrier, the wait on one's own, the two kinds of
transfer, and the waits on their semaphores.
-/
module

public import proofs.«01_k».proof.Proof.Trips

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (A : Dev nD → cc0_scratch0.ty.Contents (Elt F))

/-! ## What a landing leaves -/

omit [FloatOps F] in
theorem landed_slot (s c : Dev nD) (fd : cc0_scratch1.ty.Contents (Elt F)) :
    ∀ i ∈ (slotOf s).view.set, (slotOf s).view.write (Elt F) fd ((accRows c).view.read (Elt F) (A s)) Finset.univ i = gath A c i := by
  intro i hi
  obtain ⟨x, -, rfl⟩ := Finset.mem_map.mp hi
  rw [View.write_emb_of_mem _ _ (Finset.mem_univ x)]
  show A s ((accRows c).view.emb x) = gath A c ((slotOf s).view.emb x)
  rw [emb_accRows, emb_slotOf]
  rfl

theorem landed_rows (s : Dev nD) (fd : cc0_scratch2.ty.Contents (Elt F)) :
    ∀ i ∈ (resRows s).view.set, (resRows s).view.write (Elt F) fd ((resRows s).view.read (Elt F) (total A)) Finset.univ i = total A i := by
  intro i hi
  obtain ⟨x, -, rfl⟩ := Finset.mem_map.mp hi
  rw [View.write_emb_of_mem _ _ (Finset.mem_univ x)]
  rfl

/-! ## The invariants -/

omit [FloatOps F] in
/-- One of many. -/
theorem sep_take {I : Type} [DecidableEq I] {s : Finset I} {i : I} (h : i ∈ s) {Φ : I → sProp 𝕄} : (bigSep s Φ : sProp 𝕄) ⊢ Φ i :=
  bigSep_elim h

def invs (K : GSem nD τ sig → ℕ) : sProp 𝕄 :=
  iprop(bigSep (Finset.univ : Finset (Dev nD)) (fun c => cellInv ER (talk A) (K (barCell c)) (barCell c))
    ∗ bigSep (Finset.univ : Finset (Fin 4 × Dev nD × Dev nD)) (fun x =>
      cellInv ER (talk A) (K (cell x.1 x.2.1 x.2.2)) (cell x.1 x.2.1 x.2.2)))

instance invs_persistent (K : GSem nD τ sig → ℕ) : BI.Persistent (invs A K) := by unfold invs; infer_instance

theorem invs_bar (K : GSem nD τ sig → ℕ) (c : Dev nD) :
    invs A K ⊢ cellInv ER (talk A) (K (barCell c)) (barCell c) := by
  unfold invs
  iintro ⟨H, -⟩
  iapply (sep_take (Finset.mem_univ c)) $$ H
theorem invs_cell (K : GSem nD τ sig → ℕ) (k : Fin 4) (c p : Dev nD) :
    invs A K ⊢ cellInv ER (talk A) (K (cell k c p)) (cell k c p) := by
  unfold invs
  iintro ⟨-, H⟩
  iapply (sep_take (Φ := fun x : Fin 4 × Dev nD × Dev nD =>
    cellInv ER (talk A) (K (cell x.1 x.2.1 x.2.2)) (cell x.1 x.2.1 x.2.2)) (Finset.mem_univ (k, c, p))) $$ H

/-! ## The waits are in order -/

omit [FloatOps F] in
theorem mayWait (c : Dev nD) (sm : SemLoc sig) (O : CellTallies nD τ sig Unit) (b : ℕ) (hb : lvOf sm ≤ b)
    (hO : ∀ g u, 0 < O g u → g.1.2 = .tc ∧ b < lvOf g.2) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

theorem lvOf_dsem (k : Fin 4) (p : Dev nD) : lvOf (.dma (dsem k p)) = famLv k := by
  dsimp only [lvOf]
  rw [if_pos (six_le_dsem k p), famOf_dsem]

theorem owedAt_pos (k : Fin 4) (c : Dev nD) (S : Finset (Dev nD)) (g : GSem nD τ sig) (u : Unit) (h : 0 < owedAt k c S g u) :
    g.1.2 = .tc ∧ lvOf g.2 = famLv k := by
  obtain ⟨p, -, rfl⟩ := sum_tally_pos S (fun p => cell k p c) N g u h
  exact ⟨rfl, lvOf_dsem k c⟩

theorem owedBar_pos (S : Finset (Dev nD)) (g : GSem nD τ sig) (u : Unit) (h : 0 < owedBar S g u) :
    g.1.2 = .tc ∧ lvOf g.2 = 1 := by
  obtain ⟨p, -, rfl⟩ := sum_tally_pos S (fun p => barCell p) 1 g u h
  exact ⟨rfl, rfl⟩

theorem add_pos_or (X Y : CellTallies nD τ sig Unit) (g : GSem nD τ sig) (u : Unit) (h : 0 < (X + Y) g u) :
    0 < X g u ∨ 0 < Y g u := by
  rw [Pi.add_apply, Finsupp.add_apply] at h
  omega

/-! ## The moves -/

variable (K : GSem nD τ sig → ℕ) (c p : Dev nD) {W : Waits sig Unit} (O : CellTallies nD τ sig Unit)

local notation "WP" => wp frame (wpE (defs₀ (F := F)) 𝒱₀ (c : Thread nD τ) none) Set.univ

/-- A unit to device `p`'s barrier. -/
theorem signal_move (h : p ≠ c) {α : Type} {Q : α → sProp 𝕄}
    {k : PUnit → Prog (TpuEff nD τ sig (Elt F) Λ₀ .tc) α} :
    iprop(invs A K ∗ owes (c : Thread nD τ) (tallyAt (barCell p) () 1 + O) W ∗ dutyTok ER (barCell p) 0 c
        ∗ barPay p c ∗ reached ER (barCell p) 0)
      ⊢ iprop((owes (c : Thread nD τ) O W -∗ WP (k ⟨⟩) Q) -∗ WP (.op (.semSignal (Dev.tc p) barSem 1) k) Q) := by
  iintro ⟨#HI, HO, Ht, Hp, Hr⟩
  iapply (Rounds.wp_signal 𝒱₀ ER (talk A) (c : Thread nD τ) none (dst := (p : Thread nD τ)) (sem := barSem) (r := 0) (d := c)
      (κ := K (barCell p)) (by rw [duties_bar]; exact Finset.mem_erase.mpr ⟨h.symm, Finset.mem_univ _⟩) (amount_bar A p c) () O
      (add_comm _ _))
  isplitr; · iapply (invs_bar A K p) $$ HI
  isplitl [HO]; · iexact HO
  isplitl [Ht]; · iexact Ht
  isplitl [Hp]; · rw [payload_bar]; iexact Hp
  iexact Hr

/-- The wait on the own barrier. -/
theorem barrier_move (hO : ∀ g u, 0 < O g u → g.1.2 = .tc ∧ 1 < lvOf g.2) {α : Type} {Q : α → sProp 𝕄}
    {k : PUnit → Prog (TpuEff nD τ sig (Elt F) Λ₀ .tc) α} :
    iprop(invs A K ∗ cred (tallyAt (barCell c) () 31) ∗ owes (c : Thread nD τ) O W ∗ levAts L lv ∗ atPos ER (barCell c) 0 ∅ 0)
      ⊢ iprop(((owes (c : Thread nD τ) O (insert (SemLoc.reg barSem, ()) W) ∗ atPos ER (barCell c) 1 ∅ 0
            ∗ bigSep (Finset.univ.erase c) (fun d => barPay c d)) -∗ WP (k ⟨⟩) Q)
          -∗ WP (.op (.semWait barSem 31) k) Q) := by
  iintro ⟨#HI, Hc, HO, Hl, Ha⟩ HK
  iapply (Rounds.wp_wait_rest_token 𝒱₀ ER (talk A) (c : Thread nD τ) none (κ := K (barCell c))
      (wpE_semWait_eq 𝒱₀ (c : Thread nD τ) none Set.univ) (Set.mem_univ _) () (O := O) (W := W) (R := 0) (m := 0) (T := ∅)
      ((Nat.zero_add 31).trans (expect_bar A c).symm)) $$ [Hc HO Hl Ha]
  · isplitr; · iapply (invs_bar A K c) $$ HI
    isplitl [Hc]; · iexact Hc
    isplitl [HO]; · iexact HO
    isplitl [Hl]; · iapply (mayWait c (.reg barSem) O 1 (Nat.le_refl 1) hO) $$ Hl
    iexact Ha
  iintro ⟨HO, Ha, -, Hp⟩
  iapply HK
  isplitl [HO]; · iexact HO
  isplitl [Ha]; · iexact Ha
  iapply (Entails.of_eq (rest_bar A c)) $$ Hp

theorem acc_pay : accPt c p fullShare (A c) ⊢ (talk A).payload (cell 0 c p) 0 p := by
  rw [payload_cell]; exact BI.Entails.refl _
theorem slot_pay (fd : cc0_scratch1.ty.Contents (Elt F)) :
    slotPt p c fullShare ((slotOf c).view.write (Elt F) fd ((accRows p).view.read (Elt F) (A c)) Finset.univ)
      ⊢ (talk A).payload (cell 1 p c) 0 c := by
  rw [payload_cell]
  exact Entails.of_eq (pointsTo_congr (landed_slot A c p fd))
theorem part_pay : resPt c c (part p) (total A) ⊢ (talk A).payload (cell 2 c p) 0 p := by
  rw [payload_cell]; exact BI.Entails.refl _
theorem rows_pay (fd : cc0_scratch2.ty.Contents (Elt F)) :
    resPt p c fullShare ((resRows c).view.write (Elt F) fd ((resRows c).view.read (Elt F) (total A)) Finset.univ)
      ⊢ (talk A).payload (cell 3 p c) 0 c := by
  rw [payload_cell]
  exact Entails.of_eq (pointsTo_congr (landed_rows A c fd))

/-- The partial product's rows for device `p`, sent to its slot for `c`. -/
theorem sendA_move (h : p ≠ c) {h1 h2 h3} {α : Type} {Q : α → sProp 𝕄}
    {k : PUnit → Prog (TpuEff nD τ sig (Elt F) Λ₀ .tc) α} :
    iprop(invs A K ∗ accPt c p fullShare (A c) ∗ (∃ f, slotPt p c fullShare f)
        ∗ owes (c : Thread nD τ) (tallyAt (cell 1 p c) () N + O) W
        ∗ dutyTok ER (cell 0 c p) 0 p ∗ reached ER (cell 0 c p) 0 ∗ dutyTok ER (cell 1 p c) 0 c ∗ reached ER (cell 1 p c) 0)
      ⊢ iprop(((cred (tallyAt (cell 0 c p) () N) ∗ owes (c : Thread nD τ) O W) -∗ WP (k ⟨⟩) Q)
          -∗ WP (.op (.enqueueDma (accRows p) (.remote (Dev.tc p) (slotOf c) (.dma (dsem 0 p))) (.dma (dsem 1 c)) h1 h2 h3) k) Q) := by
  iintro ⟨#HI, Hs, ⟨%fd, Hd⟩, HO, Ht, Hr, Ht', Hr'⟩
  iapply (Rounds.wp_send_pointsTo 𝒱₀ ER (talk A) (c : Thread nD τ) none (c' := (p : Thread nD τ)) (src := accRows p) (dst := slotOf c)
      (sS := .dma (dsem 0 p)) (sem := .dma (dsem 1 c)) (q := fullShare) (fs := A c) (κ₁ := K (cell 0 c p)) (κ₂ := K (cell 1 p c))
      (r₁ := 0) (r₂ := 0) (d₁ := p) (d₂ := c) (fd := fd)
      (by rw [duties_other A 0 c p h]; exact Finset.mem_singleton_self _)
      (by rw [duties_other A 1 p c h.symm]; exact Finset.mem_singleton_self _)
      () () N rfl (amount_cell A 0 c p p) (amount_cell A 1 p c c) O (add_comm _ _) (acc_pay A c p) (slot_pay A c p fd))
  isplitr; · iapply (invs_cell A K 0 c p) $$ HI
  isplitr; · iapply (invs_cell A K 1 p c) $$ HI
  isplitl [Hs]; · iexact Hs
  isplitl [Hd]; · iexact Hd
  isplitl [HO]; · iexact HO
  isplitl [Ht]; · iexact Ht
  isplitl [Hr]; · iexact Hr
  isplitl [Ht']; · iexact Ht'
  iexact Hr'

/-- The reduced rows of `c`, sent to device `p`. -/
theorem sendB_move (h : p ≠ c) {h1 h2 h3} {α : Type} {Q : α → sProp 𝕄}
    {k : PUnit → Prog (TpuEff nD τ sig (Elt F) Λ₀ .tc) α} :
    iprop(invs A K ∗ resPt c c (part p) (total A) ∗ (∃ f, resPt p c fullShare f)
        ∗ owes (c : Thread nD τ) (tallyAt (cell 3 p c) () N + O) W
        ∗ dutyTok ER (cell 2 c p) 0 p ∗ reached ER (cell 2 c p) 0 ∗ dutyTok ER (cell 3 p c) 0 c ∗ reached ER (cell 3 p c) 0)
      ⊢ iprop(((cred (tallyAt (cell 2 c p) () N) ∗ owes (c : Thread nD τ) O W) -∗ WP (k ⟨⟩) Q)
          -∗ WP (.op (.enqueueDma (resRows c) (.remote (Dev.tc p) (resRows c) (.dma (dsem 2 p))) (.dma (dsem 3 c)) h1 h2 h3) k) Q) := by
  iintro ⟨#HI, Hs, ⟨%fd, Hd⟩, HO, Ht, Hr, Ht', Hr'⟩
  iapply (Rounds.wp_send_pointsTo 𝒱₀ ER (talk A) (c : Thread nD τ) none (c' := (p : Thread nD τ)) (src := resRows c) (dst := resRows c)
      (sS := .dma (dsem 2 p)) (sem := .dma (dsem 3 c)) (q := part p) (fs := total A) (κ₁ := K (cell 2 c p)) (κ₂ := K (cell 3 p c))
      (r₁ := 0) (r₂ := 0) (d₁ := p) (d₂ := c) (fd := fd)
      (by rw [duties_other A 2 c p h]; exact Finset.mem_singleton_self _)
      (by rw [duties_other A 3 p c h.symm]; exact Finset.mem_singleton_self _)
      () () N rfl (amount_cell A 2 c p p) (amount_cell A 3 p c c) O (add_comm _ _) (part_pay A c p) (rows_pay A c p fd))
  isplitr; · iapply (invs_cell A K 2 c p) $$ HI
  isplitr; · iapply (invs_cell A K 3 p c) $$ HI
  isplitl [Hs]; · iexact Hs
  isplitl [Hd]; · iexact Hd
  isplitl [HO]; · iexact HO
  isplitl [Ht]; · iexact Ht
  isplitl [Hr]; · iexact Hr
  isplitl [Ht']; · iexact Ht'
  iexact Hr'

/-- The wait for the transfer a semaphore of the four arrays counts. -/
theorem wait_move (j : Fin 4) (h : p ≠ c) (hO : (levAts L lv : sProp 𝕄) ⊢ MayWait (c : Thread nD τ) (.dma (dsem j p)) () O)
    {src dst : Memref sig .tc .vmem S32x768 .bf16} (hN : dst.view.dmaCredit = N) {h1 h2}
    {α : Type} {Q : α → sProp 𝕄}
    {k : PUnit → Prog (TpuEff nD τ sig (Elt F) Λ₀ .tc) α} :
    iprop(invs A K ∗ levAts L lv ∗ (cred (tallyAt (cell j c p) () N) ∗ atPos ER (cell j c p) 0 ∅ 0) ∗ owes (c : Thread nD τ) O W)
      ⊢ iprop((((pay A j c p ∗ atPos ER (cell j c p) 1 ∅ 0) ∗ owes (c : Thread nD τ) O (insert (SemLoc.dma (dsem j p), ()) W))
            -∗ WP (k ⟨⟩) Q)
          -∗ WP (.op (.waitDma2 (dsem j p) src dst h1 h2) k) Q) := by
  iintro ⟨#HI, Hl, ⟨Hc, Ha⟩, HO⟩ HK
  iapply (Rounds.wp_wait_rest_token 𝒱₀ ER (talk A) (c : Thread nD τ) none (κ := K (cell j c p))
      (wpE_waitDma2_eq (src := src) (dst := dst) 𝒱₀ (c : Thread nD τ) none Set.univ) (Set.mem_univ _) () (O := O) (W := W) (R := 0)
      (m := 0) (T := ∅) ((Nat.zero_add _).trans (hN.trans (expect_cell A j c p h).symm))) $$ [Hc HO Hl Ha]
  · isplitr; · iapply (invs_cell A K j c p) $$ HI
    isplitl [Hc]; · rw [hN]; iexact Hc
    isplitl [HO]; · iexact HO
    isplitl [Hl]; · iapply hO $$ Hl
    iexact Ha
  iintro ⟨HO, Ha, -, Hp⟩
  iapply HK
  isplitr [HO]
  · isplitl [Hp]; · iapply (Entails.of_eq (rest_cell A j c p h)) $$ Hp
    iexact Ha
  iexact HO

end Cert.KernelIdeal
-- ==== Proof.Steps.lean ====
/-
The seven loops of the exchange, each as a whole.
-/
module

public import proofs.«01_k».proof.Proof.Moves
public import proofs.«01_k».proof.Proof.Gen.KernelIdeal.Skeleton

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slices at an offset that is known -/

theorem accRows_at {off : Fin 2 → ℕ} (p : Dev nD) (h : off = ![32 * p.val, 0]) (inb : ∀ a, off a + S32x768.size a ≤ S1024x768.size a)
    (hs) : (Memref.whole cc0_scratch0).slice (Rect.unit (s := S1024x768) off S32x768.size inb) hs = accRows p := by
  subst h; rfl
theorem resRows_at {off : Fin 2 → ℕ} (p : Dev nD) (h : off = ![32 * p.val, 0]) (inb : ∀ a, off a + S32x768.size a ≤ S1024x768.size a)
    (hs) : (Memref.whole cc0_scratch2).slice (Rect.unit (s := S1024x768) off S32x768.size inb) hs = resRows p := by
  subst h; rfl
theorem slotOf_at {off : Fin 3 → ℕ} (p : Dev nD) (h : off = ![p.val, 0, 0]) (inb : ∀ a, off a + S1x32x768.size a ≤ S32x32x768.size a)
    (hs hq) : ((Memref.whole cc0_scratch1).slice (Rect.unit (s := S32x32x768) off S1x32x768.size inb) hs).squeeze S32x768 hq = slotOf p := by
  subst h; rfl

variable (A : Dev nD → cc0_scratch0.ty.Contents (Elt F)) (K : GSem nD τ sig → ℕ) (c : Dev nD)

/-- What device `c` still owes, whatever it has waited for. -/
def due (O : CellTallies nD τ sig Unit) : sProp 𝕄 := iprop(∃ W, owes (c : Thread nD τ) O W)

/-- What a trip of each loop takes. -/
def sigIn (p : Dev nD) : sProp 𝕄 := iprop(dutyTok ER (barCell p) 0 c ∗ barPay p c ∗ reached ER (barCell p) 0)
def sendAIn (p : Dev nD) : sProp 𝕄 :=
  iprop(accPt c p fullShare (A c) ∗ (∃ f, slotPt p c fullShare f)
    ∗ dutyTok ER (cell 0 c p) 0 p ∗ reached ER (cell 0 c p) 0 ∗ dutyTok ER (cell 1 p c) 0 c ∗ reached ER (cell 1 p c) 0)
def sendBIn (p : Dev nD) : sProp 𝕄 :=
  iprop(resPt c c (part p) (total A) ∗ (∃ f, resPt p c fullShare f)
    ∗ dutyTok ER (cell 2 c p) 0 p ∗ reached ER (cell 2 c p) 0 ∗ dutyTok ER (cell 3 p c) 0 c ∗ reached ER (cell 3 p c) 0)
def waitIn (j : Fin 4) (p : Dev nD) : sProp 𝕄 :=
  iprop(cred (tallyAt (cell j c p) () N) ∗ atPos ER (cell j c p) 0 ∅ 0)
def waitOut (j : Fin 4) (p : Dev nD) : sProp 𝕄 :=
  iprop(pay A j c p ∗ atPos ER (cell j c p) 1 ∅ 0)

/-- What every trip has at hand. -/
def hand : sProp 𝕄 := iprop(invs A K ∗ levAts L lv)
instance hand_persistent : BI.Persistent (hand A K) := by unfold hand; infer_instance

local notation "WP" => wp frame (wpE (defs₀ (F := F)) 𝒱₀ (c : Thread nD τ) none) Set.univ

theorem sig_step (p : Dev nD) (O : CellTallies nD τ sig Unit) (h : p ≠ c) {dv : Dev nD} (hd : dv = p) :
    iprop(hand A K ∗ sigIn c p ∗ due c (tallyAt (barCell p) () 1 + O))
      ⊢ WP (.op (.semSignal (Dev.tc dv) barSem 1) fun _ => .ret PUnit.unit) (fun _ => iprop(BI.emp ∗ due c O)) := by
  subst hd
  unfold hand sigIn due
  iintro ⟨⟨#HI, -⟩, ⟨Ht, Hp, Hr⟩, ⟨%W, HO⟩⟩
  iapply (signal_move A K c dv O h (W := W)) $$ [HO Ht Hp Hr]
  · isplitr; · iexact HI
    isplitl [HO]; · iexact HO
    isplitl [Ht]; · iexact Ht
    isplitl [Hp]; · iexact Hp
    iexact Hr
  iintro HO
  rw [wp_ret]; imodintro
  isplitr; · iempintro
  iexists W; iexact HO

theorem sendA_step (p : Dev nD) (O : CellTallies nD τ sig Unit) (h : p ≠ c) {dv : Dev nD} (hd : dv = p)
    {src dst : Memref sig .tc .vmem S32x768 .bf16} (hsrc : src = accRows p) (hdst : dst = slotOf c)
    {s1 s2 : DmaSem sig} (e1 : s1 = dsem 0 p) (e2 : s2 = dsem 1 c) {h1 h2 h3} :
    iprop(hand A K ∗ sendAIn A c p ∗ due c (tallyAt (cell 1 p c) () N + O))
      ⊢ WP (.op (.enqueueDma src (.remote (Dev.tc dv) dst (.dma s1)) (.dma s2) h1 h2 h3) fun _ => .ret PUnit.unit)
        (fun _ => iprop(cred (tallyAt (cell 0 c p) () N) ∗ due c O)) := by
  subst hd hsrc hdst e1 e2
  unfold hand sendAIn due
  iintro ⟨⟨#HI, -⟩, ⟨Hs, Hd, Ht, Hr, Ht', Hr'⟩, ⟨%W, HO⟩⟩
  iapply (sendA_move A K c dv O h (W := W)) $$ [HO Hs Hd Ht Hr Ht' Hr']
  · isplitr; · iexact HI
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  rw [wp_ret]; imodintro
  isplitl [Hc]; · iexact Hc
  iexists W; iexact HO

theorem sendB_step (p : Dev nD) (O : CellTallies nD τ sig Unit) (h : p ≠ c) {dv : Dev nD} (hd : dv = p)
    {src dst : Memref sig .tc .vmem S32x768 .bf16} (hsrc : src = resRows c) (hdst : dst = resRows c)
    {s1 s2 : DmaSem sig} (e1 : s1 = dsem 2 p) (e2 : s2 = dsem 3 c) {h1 h2 h3} :
    iprop(hand A K ∗ sendBIn A c p ∗ due c (tallyAt (cell 3 p c) () N + O))
      ⊢ WP (.op (.enqueueDma src (.remote (Dev.tc dv) dst (.dma s1)) (.dma s2) h1 h2 h3) fun _ => .ret PUnit.unit)
        (fun _ => iprop(cred (tallyAt (cell 2 c p) () N) ∗ due c O)) := by
  subst hd hsrc hdst e1 e2
  unfold hand sendBIn due
  iintro ⟨⟨#HI, -⟩, ⟨Hs, Hd, Ht, Hr, Ht', Hr'⟩, ⟨%W, HO⟩⟩
  iapply (sendB_move A K c dv O h (W := W)) $$ [HO Hs Hd Ht Hr Ht' Hr']
  · isplitr; · iexact HI
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  rw [wp_ret]; imodintro
  isplitl [Hc]; · iexact Hc
  iexists W; iexact HO

/-- A wait, and what comes after it. -/
theorem wait_then (j : Fin 4) (p : Dev nD) (O : CellTallies nD τ sig Unit) (h : p ≠ c)
    (hO : ∀ g u, 0 < O g u → g.1.2 = .tc ∧ famLv j < lvOf g.2)
    {src dst : Memref sig .tc .vmem S32x768 .bf16} (hN : dst.view.dmaCredit = N)
    {s : DmaSem sig} (e : s = dsem j p) {h1 h2} {α : Type} {Q : α → sProp 𝕄}
    {k : PUnit → Prog (TpuEff nD τ sig (Elt F) Λ₀ .tc) α} :
    iprop(hand A K ∗ waitIn c j p ∗ due c O)
      ⊢ iprop(((waitOut A c j p ∗ due c O) -∗ WP (k ⟨⟩) Q) -∗ WP (.op (.waitDma2 s src dst h1 h2) k) Q) := by
  subst e
  unfold hand waitIn waitOut due
  iintro ⟨⟨#HI, #Hl⟩, Hw, ⟨%W, HO⟩⟩ HK
  iapply (wait_move A K c p O j h (mayWait c _ O (famLv j) (le_of_eq (lvOf_dsem j p)) hO) hN (W := W)) $$ [HO Hw]
  · isplitr; · iexact HI
    isplitr; · iexact Hl
    isplitl [Hw]; · iexact Hw
    iexact HO
  iintro ⟨Hp, HO⟩
  iapply HK
  isplitl [Hp]; · iexact Hp
  iexists _; iexact HO

theorem wait_step (j : Fin 4) (p : Dev nD) (O : CellTallies nD τ sig Unit) (h : p ≠ c)
    (hO : ∀ g u, 0 < O g u → g.1.2 = .tc ∧ famLv j < lvOf g.2)
    {src dst : Memref sig .tc .vmem S32x768 .bf16} (hN : dst.view.dmaCredit = N)
    {s : DmaSem sig} (e : s = dsem j p) {h1 h2} :
    iprop(hand A K ∗ waitIn c j p ∗ due c O)
      ⊢ WP (.op (.waitDma2 s src dst h1 h2) fun _ => .ret PUnit.unit) (fun _ => iprop(waitOut A c j p ∗ due c O)) := by
  iintro H
  iapply (wait_then A K c j p O h hO hN e) $$ H
  iintro H
  rw [wp_ret]; imodintro
  iexact H

/-- Two waits in one trip. -/
theorem wait_step2 (j j' : Fin 4) (p : Dev nD) (O : CellTallies nD τ sig Unit) (h : p ≠ c)
    (hO : ∀ g u, 0 < O g u → g.1.2 = .tc ∧ famLv j < lvOf g.2) (hO' : ∀ g u, 0 < O g u → g.1.2 = .tc ∧ famLv j' < lvOf g.2)
    {src dst : Memref sig .tc .vmem S32x768 .bf16} (hN : dst.view.dmaCredit = N)
    {src' dst' : Memref sig .tc .vmem S32x768 .bf16} (hN' : dst'.view.dmaCredit = N)
    {s s' : DmaSem sig} (e : s = dsem j p) (e' : s' = dsem j' p) {h1 h2 h1' h2'} :
    iprop(hand A K ∗ (waitIn c j p ∗ waitIn c j' p) ∗ due c O)
      ⊢ WP (.op (.waitDma2 s src dst h1 h2) fun _ => .op (.waitDma2 s' src' dst' h1' h2') fun _ => .ret PUnit.unit)
        (fun _ => iprop((waitOut A c j p ∗ waitOut A c j' p) ∗ due c O)) := by
  iintro ⟨#HH, ⟨H, H'⟩, HO⟩
  iapply (wait_then A K c j p O h hO hN e) $$ [H HO]
  · isplitr; · iexact HH
    isplitl [H]; · iexact H
    iexact HO
  iintro ⟨H, HO⟩
  iapply (wait_then A K c j' p O h hO' hN' e') $$ [H' HO]
  · isplitr; · iexact HH
    isplitl [H']; · iexact H'
    iexact HO
  iintro ⟨H', HO⟩
  rw [wp_ret]; imodintro
  isplitl [H H']
  · isplitl [H] <;> iassumption
  iexact HO

end Cert.KernelIdeal
-- ==== Proof.LoopRuns.lean ====
/-
The seven loops of the exchange, each as a whole.
-/
module

public import proofs.«01_k».proof.Proof.Steps

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is owed, trip by trip -/

theorem owedBar_turn (c : Dev nD) : owedBar (Finset.univ.erase c) = ∑ t : Fin 31, tallyAt (barCell (turn c t)) () 1 := sum_turn c _
theorem owedAt_turn (k : Fin 4) (c : Dev nD) :
    owedAt k c (Finset.univ.erase c) = ∑ t : Fin 31, tallyAt (cell k (turn c t) c) () N := sum_turn c _
theorem owedAt_halves (k : Fin 4) (c : Dev nD) :
    owedAt k c (Finset.univ.erase c)
      = ∑ t : Fin 16, otherV c (fun p => tallyAt (cell k p c) () N) (loD t)
        + ∑ t : Fin 16, otherV c (fun p => tallyAt (cell k p c) () N) (hiD t) :=
  (sum_other c _).trans (sum_halves _)

section Sums

variable {M : Type} [AddCommMonoid M] {n : ℕ}

theorem sum_all (f : Fin n → M) (R : M) : ∑ t ∈ toCome 0, f t + R = ∑ t, f t + R := by
  rw [toCome_zero]
theorem sum_none (f : Fin n → M) (R : M) : ∑ t ∈ toCome n, f t + R = R := by
  rw [toCome_all, Finset.sum_empty, zero_add]
theorem sum_at (f : Fin n → M) (R : M) (t : Fin n) :
    ∑ s ∈ toCome t.val, f s + R = f t + (∑ s ∈ toCome (t.val + 1), f s + R) := by
  rw [sum_toCome, add_assoc]

end Sums

variable (A : Dev nD → cc0_scratch0.ty.Contents (Elt F)) (K : GSem nD τ sig → ℕ) (c : Dev nD)

local notation "WP" => wp frame (wpE (defs₀ (F := F)) 𝒱₀ (c : Thread nD τ) none) Set.univ

/-- A loop whose trip `t` pays `f t` of what is owed. -/
theorem each_due {n : ℕ} {l : Scf.Loop 32} (hok : l.OK) (hn : l.trips = n)
    (body : Fin l.trips → PUnit → Prog (TpuEff nD τ sig (Elt F) Λ₀ .tc) PUnit)
    (Φ Ψ : Fin n → sProp 𝕄) (f : Fin n → CellTallies nD τ sig Unit) (R : CellTallies nD τ sig Unit)
    (hbody : ∀ (t : Fin l.trips) (O : CellTallies nD τ sig Unit), iprop(hand A K ∗ Φ (t.cast hn) ∗ due c (f (t.cast hn) + O))
      ⊢ WP (body t ⟨⟩) (fun _ => iprop(Ψ (t.cast hn) ∗ due c O)))
    {β : Type} {kk : PUnit → Prog (TpuEff nD τ sig (Elt F) Λ₀ .tc) β} {Q : β → sProp 𝕄} :
    iprop(hand A K ∗ bigSep Finset.univ Φ ∗ due c (∑ t, f t + R))
      ⊢ iprop(((bigSep Finset.univ Ψ ∗ due c R) -∗ WP (kk ⟨⟩) Q) -∗ WP (Scf.Loop.for l hok ⟨⟩ body >>= kk) Q) := by
  have h := wp_each (E := TpuEff nD τ sig (Elt F) Λ₀ .tc) frame (wpE (defs₀ (F := F)) 𝒱₀ (c : Thread nD τ) none) Set.univ hok hn body
    (hand A K) Φ Ψ (fun k => due c (∑ t ∈ toCome k, f t + R))
    (fun t => by
      have e := sum_at f R (t.cast hn)
      show iprop(hand A K ∗ Φ (t.cast hn) ∗ due c (∑ s ∈ toCome (t.cast hn).val, f s + R)) ⊢ _
      rw [e]
      exact hbody t _) (kk := kk) (Q := Q)
  dsimp only at h
  rw [sum_all, sum_none] at h
  exact h

/-- A loop that waits, while what is owed stays. -/
theorem each_wait {n : ℕ} {l : Scf.Loop 32} (hok : l.OK) (hn : l.trips = n)
    (body : Fin l.trips → PUnit → Prog (TpuEff nD τ sig (Elt F) Λ₀ .tc) PUnit)
    (Φ Ψ : Fin n → sProp 𝕄) (O : CellTallies nD τ sig Unit)
    (hbody : ∀ t : Fin l.trips, iprop(hand A K ∗ Φ (t.cast hn) ∗ due c O)
      ⊢ WP (body t ⟨⟩) (fun _ => iprop(Ψ (t.cast hn) ∗ due c O)))
    {β : Type} {kk : PUnit → Prog (TpuEff nD τ sig (Elt F) Λ₀ .tc) β} {Q : β → sProp 𝕄} :
    iprop(hand A K ∗ bigSep Finset.univ Φ ∗ due c O)
      ⊢ iprop(((bigSep Finset.univ Ψ ∗ due c O) -∗ WP (kk ⟨⟩) Q) -∗ WP (Scf.Loop.for l hok ⟨⟩ body >>= kk) Q) :=
  wp_each (E := TpuEff nD τ sig (Elt F) Λ₀ .tc) frame (wpE (defs₀ (F := F)) 𝒱₀ (c : Thread nD τ) none) Set.univ hok hn body
    (hand A K) Φ Ψ (fun _ => due c O) hbody

variable (arg0 : Memref sig .tc .vmem S2x512x768 .bf16) (harg0 : arg0.IsWhole) (arg1 : Memref sig .tc .vmem S768x512 .bf16)
  (harg1 : arg1.IsWhole) (arg2 : Memref sig .tc .vmem S2x512x8x64 .bf16) (harg2 : arg2.IsWhole) (arg3 : Memref sig .tc
  .vmem S2x512x8x64 .bf16) (harg3 : arg3.IsWhole) (arg4 : Memref sig .tc .vmem S512x768 .bf16) (harg4 : arg4.IsWhole)
  (arg5 : Memref sig .tc .vmem S2x512x768 .f32) (harg5 : arg5.IsWhole)

/-! ## Each loop -/

theorem signals {hok : k0_t1_loop.OK} (O : CellTallies nD τ sig Unit)
    {β : Type} {kk : PUnit → Prog (TpuEff nD τ sig (Elt F) Λ₀ .tc) β} {Q : β → sProp 𝕄} :
    iprop(hand A K ∗ bigSep Finset.univ (fun t : Fin 31 => sigIn (F := F) c (turn c t)) ∗ due c (∑ t : Fin 31, tallyAt (barCell (turn c t)) () 1 + O))
      ⊢ iprop((due c O -∗ WP (kk ⟨⟩) Q)
        -∗ WP (Scf.Loop.for k0_t1_loop hok ⟨⟩ (Gen.k0_t1_body arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (SemArray.scalar (sig.barrier 0 rfl))) >>= kk) Q) := by
  iintro H HK
  iapply (each_due A K c hok trips1 _ (fun t => sigIn c (turn c t)) (fun _ => BI.emp) _ O
    (fun t O' => by
      unfold Gen.k0_t1_body
      exact sig_step A K c (turn c (t.cast trips1)) O' (turn_ne c _) (Fin.ext (dev1_eq c t)))) $$ H
  iintro ⟨-, HO⟩
  iapply HK $$ HO

theorem sendsLo {hok : k0_t2_loop.OK} (d2 v2 v3 v16 v172 v173) (O : CellTallies nD τ sig Unit)
    {β : Type} {kk : PUnit → Prog (TpuEff nD τ sig (Elt F) Λ₀ .tc) β} {Q : β → sProp 𝕄} (hd : d2 = c) :
    iprop(hand A K ∗ bigSep Finset.univ (fun t : Fin 16 => other c (sendAIn A c) (loD t))
        ∗ due c (∑ t : Fin 16, otherV c (fun p => tallyAt (cell 1 p c) () N) (loD t) + O))
      ⊢ iprop(((bigSep Finset.univ (fun t : Fin 16 => other c (fun p => cred (tallyAt (cell 0 c p) () N)) (loD t)) ∗ due c O) -∗ WP (kk ⟨⟩) Q)
        -∗ WP (Scf.Loop.for k0_t2_loop hok ⟨⟩ (Gen.k0_t2_body arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d2 v2 v3 v16 v172 v173) >>= kk) Q) := by
  subst hd
  refine each_due A K d2 hok trips2 _ (fun t => other d2 (sendAIn A d2) (loD t))
    (fun t => other d2 (fun p => cred (tallyAt (cell 0 d2 p) () N)) (loD t)) _ O (fun t O' => ?_)
  unfold Gen.k0_t2_body
  dsimp only
  by_cases h : low t = d2
  · have e : loD (t.cast trips2) = d2 := h
    rw [dif_neg fun h' => (cond1_iff d2 t).mp h' h, e, other_self, other_self, otherV, if_neg fun h => h rfl, zero_add]
    show _ ⊢ wp frame (wpE (defs₀ (F := F)) 𝒱₀ (d2 : Thread nD τ) none) Set.univ (Prog.ret PUnit.unit) _
    rw [wp_ret]
    iintro ⟨-, -, HO⟩
    imodintro
    isplitr; · iempintro
    iexact HO
  · have e : loD (t.cast trips2) ≠ d2 := h
    rw [dif_pos ((cond1_iff d2 t).mpr h), other_ne e, other_ne e, otherV, if_pos e]
    exact sendA_step A K d2 (low t) O' h (Fin.ext (dev2_eq t)) (accRows_at _ (off4_eq t) _ _) (slotOf_at _ (off3_eq d2) _ _ _)
      ((sem_at _ _ (off1_eq t) _ _).trans (dsem0 _)) ((sem_at _ _ (off2_eq d2) _ _).trans (dsem1 _))

theorem sendsHi {hok : k0_t3_loop.OK} (d2 v2 v379) (O : CellTallies nD τ sig Unit)
    {β : Type} {kk : PUnit → Prog (TpuEff nD τ sig (Elt F) Λ₀ .tc) β} {Q : β → sProp 𝕄} (hd : d2 = c) :
    iprop(hand A K ∗ bigSep Finset.univ (fun t : Fin 16 => other c (sendAIn A c) (hiD t))
        ∗ due c (∑ t : Fin 16, otherV c (fun p => tallyAt (cell 1 p c) () N) (hiD t) + O))
      ⊢ iprop(((bigSep Finset.univ (fun t : Fin 16 => other c (fun p => cred (tallyAt (cell 0 c p) () N)) (hiD t)) ∗ due c O) -∗ WP (kk ⟨⟩) Q)
        -∗ WP (Scf.Loop.for k0_t3_loop hok ⟨⟩ (Gen.k0_t3_body arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d2 v2 v379) >>= kk) Q) := by
  subst hd
  refine each_due A K d2 hok trips3 _ (fun t => other d2 (sendAIn A d2) (hiD t))
    (fun t => other d2 (fun p => cred (tallyAt (cell 0 d2 p) () N)) (hiD t)) _ O (fun t O' => ?_)
  unfold Gen.k0_t3_body
  dsimp only
  by_cases h : high t = d2
  · have e : hiD (t.cast trips3) = d2 := h
    rw [dif_neg fun h' => (cond2_iff d2 t).mp h' h, e, other_self, other_self, otherV, if_neg fun h => h rfl, zero_add]
    show _ ⊢ wp frame (wpE (defs₀ (F := F)) 𝒱₀ (d2 : Thread nD τ) none) Set.univ (Prog.ret PUnit.unit) _
    rw [wp_ret]
    iintro ⟨-, -, HO⟩
    imodintro
    isplitr; · iempintro
    iexact HO
  · have e : hiD (t.cast trips3) ≠ d2 := h
    rw [dif_pos ((cond2_iff d2 t).mpr h), other_ne e, other_ne e, otherV, if_pos e]
    exact sendA_step A K d2 (high t) O' h (Fin.ext (dev3_eq t)) (accRows_at _ (off8_eq t) _ _) (slotOf_at _ (off7_eq d2) _ _ _)
      ((sem_at _ _ (off5_eq t) _ _).trans (dsem0 _)) ((sem_at _ _ (off6_eq d2) _ _).trans (dsem1 _))

theorem gathers {hok : k0_t4_loop.OK} (v2 v379) (O : CellTallies nD τ sig Unit) (hO : ∀ g u, 0 < O g u → g.1.2 = .tc ∧ famLv 1 < lvOf g.2)
    {β : Type} {kk : PUnit → Prog (TpuEff nD τ sig (Elt F) Λ₀ .tc) β} {Q : β → sProp 𝕄} :
    iprop(hand A K ∗ bigSep Finset.univ (fun t : Fin 31 => waitIn (F := F) c 1 (turn c t)) ∗ due c O)
      ⊢ iprop(((bigSep Finset.univ (fun t : Fin 31 => waitOut A c 1 (turn c t)) ∗ due c O) -∗ WP (kk ⟨⟩) Q)
        -∗ WP (Scf.Loop.for k0_t4_loop hok ⟨⟩ (Gen.k0_t4_body arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v379) >>= kk) Q) :=
  each_wait A K c hok trips4 _ _ _ O fun t => by
    unfold Gen.k0_t4_body
    dsimp only
    exact wait_step A K c 1 (turn c (t.cast trips4)) O (turn_ne c _) hO (by rfl) ((sem_at _ _ (off11_eq c t) _ _).trans (dsem1 _))

theorem spreads {hok : k0_t5_loop.OK} (v2 v379) (O : CellTallies nD τ sig Unit)
    {β : Type} {kk : PUnit → Prog (TpuEff nD τ sig (Elt F) Λ₀ .tc) β} {Q : β → sProp 𝕄} :
    iprop(hand A K ∗ bigSep Finset.univ (fun t : Fin 31 => sendBIn A c (turn c t)) ∗ due c (∑ t : Fin 31, tallyAt (cell 3 (turn c t) c) () N + O))
      ⊢ iprop(((bigSep Finset.univ (fun t : Fin 31 => cred (tallyAt (cell 2 c (turn c t)) () N)) ∗ due c O) -∗ WP (kk ⟨⟩) Q)
        -∗ WP (Scf.Loop.for k0_t5_loop hok ⟨⟩ (Gen.k0_t5_body arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v379) >>= kk) Q) :=
  each_due A K c hok trips5 _ _ _ _ O fun t O' => by
    unfold Gen.k0_t5_body
    dsimp only
    exact sendB_step A K c (turn c (t.cast trips5)) O' (turn_ne c _) (Fin.ext (dev4_eq c t)) (resRows_at _ (off15_eq c) _ _)
      (resRows_at _ (off15_eq c) _ _)
      ((sem_at _ _ (off13_eq c t) _ _).trans (dsem2 _)) ((sem_at _ _ (off14_eq c) _ _).trans (dsem3 _))

theorem collects {hok : k0_t6_loop.OK} (v2 v379)
    {β : Type} {kk : PUnit → Prog (TpuEff nD τ sig (Elt F) Λ₀ .tc) β} {Q : β → sProp 𝕄} :
    iprop(hand A K ∗ bigSep Finset.univ (fun t : Fin 31 => waitIn (F := F) c 3 (turn c t)) ∗ due c 0)
      ⊢ iprop(((bigSep Finset.univ (fun t : Fin 31 => waitOut A c 3 (turn c t)) ∗ due c 0) -∗ WP (kk ⟨⟩) Q)
        -∗ WP (Scf.Loop.for k0_t6_loop hok ⟨⟩ (Gen.k0_t6_body arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v379) >>= kk) Q) :=
  each_wait A K c hok trips6 _ _ _ 0 fun t => by
    unfold Gen.k0_t6_body
    dsimp only
    exact wait_step A K c 3 (turn c (t.cast trips6)) 0 (turn_ne c _) (fun _ _ h => absurd h (lt_irrefl 0)) (by rfl)
      ((sem_at _ _ (off16_eq c t) _ _).trans (dsem3 _))

theorem drains {hok : k0_t7_loop.OK} (v2 v379)
    {β : Type} {kk : PUnit → Prog (TpuEff nD τ sig (Elt F) Λ₀ .tc) β} {Q : β → sProp 𝕄} :
    iprop(hand A K ∗ bigSep Finset.univ (fun t : Fin 31 => iprop(waitIn (F := F) c 0 (turn c t) ∗ waitIn (F := F) c 2 (turn c t))) ∗ due c 0)
      ⊢ iprop(((bigSep Finset.univ (fun t : Fin 31 => iprop(waitOut A c 0 (turn c t) ∗ waitOut A c 2 (turn c t))) ∗ due c 0) -∗ WP (kk ⟨⟩) Q)
        -∗ WP (Scf.Loop.for k0_t7_loop hok ⟨⟩ (Gen.k0_t7_body arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v379) >>= kk) Q) :=
  each_wait A K c hok trips7 _ _ _ 0 fun t => by
    unfold Gen.k0_t7_body
    dsimp only
    exact wait_step2 A K c 0 2 (turn c (t.cast trips7)) 0 (turn_ne c _) (fun _ _ h => absurd h (lt_irrefl 0)) (fun _ _ h => absurd h (lt_irrefl 0))
      (by rfl) (by rfl) ((sem_at _ _ (off18_eq c t) _ _).trans (dsem0 _)) ((sem_at _ _ (off18_eq c t) _ _).trans (dsem2 _))

end Cert.KernelIdeal
-- ==== Proof.Reads.lean ====
/-
The device's inputs as its body reads them, and the parts of the body that only read them and compute.
-/
module

public import proofs.«01_k».proof.Proof.LoopRuns

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- What the five staged inputs of a device hold. -/
structure Given (F : FTy → Type) where
  x : cc0_stg0_0.ty.Contents (Elt F)
  wq : cc0_stg1_0.ty.Contents (Elt F)
  k : cc0_stg2_0.ty.Contents (Elt F)
  v : cc0_stg3_0.ty.Contents (Elt F)
  wo : cc0_stg4_0.ty.Contents (Elt F)

theorem inbX (b : Fin 2) : ∀ a, (![b.val, 0, 0] : Fin 3 → ℕ) a + S1x512x768.size a ≤ S2x512x768.size a := by
  revert b; decide
theorem inbK (b : Fin 2) (h : Fin 8) : ∀ a, (![b.val, 0, h.val, 0] : Fin 4 → ℕ) a + S1x512x1x64.size a ≤ S2x512x8x64.size a := by
  revert b h; decide
theorem inbO (h : Fin 8) : ∀ a, (![64 * h.val, 0] : Fin 2 → ℕ) a + S64x768.size a ≤ S512x768.size a := by
  revert h; decide

namespace Given

variable (g : Given F)

/-- Batch `b` of the inputs, -/
def xAt (b : Fin 2) : Vec F S1x512x768 .bf16 :=
  (Memref.whole cc0_stg0_0).view.readAt (Elt F) (Rect.unit (s := S2x512x768) ![b.val, 0, 0] S1x512x768.size (inbX b)).toLoadRect g.x
/-- the columns of the query weights, -/
def wqAll : Vec F S768x512 .bf16 :=
  (Memref.whole cc0_stg1_0).view.readAt (Elt F) (Rect.unit (s := S768x512) ![0, 0] S768x512.size Gen.inb_S768x512_S768x512_0_0).toLoadRect g.wq
/-- the keys and the values of head `h`, -/
def kAt (b : Fin 2) (h : Fin 8) : Vec F S1x512x1x64 .bf16 :=
  (Memref.whole cc0_stg2_0).view.readAt (Elt F) (Rect.unit (s := S2x512x8x64) ![b.val, 0, h.val, 0] S1x512x1x64.size (inbK b h)).toLoadRect g.k
def vAt (b : Fin 2) (h : Fin 8) : Vec F S1x512x1x64 .bf16 :=
  (Memref.whole cc0_stg3_0).view.readAt (Elt F) (Rect.unit (s := S2x512x8x64) ![b.val, 0, h.val, 0] S1x512x1x64.size (inbK b h)).toLoadRect g.v
/-- the rows of the output weights for head `h`. -/
def woAt (h : Fin 8) : Vec F S64x768 .bf16 :=
  (Memref.whole cc0_stg4_0).view.readAt (Elt F) (Rect.unit (s := S512x768) ![64 * h.val, 0] S64x768.size (inbO h)).toLoadRect g.wo

/-! The first batch's half of the partial product, after 2, 3, 5, 7 and all 8 heads. -/

def q0 : FVec F S512x512 .bf16 := Gen.k0_pay4 (g.xAt 0) g.wqAll
def lo2 : FVec F S512x768 .f32 :=
  Gen.k0_pay8 Gen.k0_pay3 g.q0 (Gen.k0_pay5 (F := F)) (Gen.k0_pay6 (g.vAt 0 0)) (Gen.k0_pay7 (g.xAt 0) g.wqAll (g.kAt 0 0)) (g.woAt 0)
    (g.kAt 0 1) (g.vAt 0 1) (g.woAt 1)
def lo3 : FVec F S512x768 .f32 :=
  Gen.k0_pay10 Gen.k0_pay3 g.lo2 (Gen.k0_pay9 g.q0) (g.kAt 0 2) (g.vAt 0 2) (g.woAt 2)
def lo5 : FVec F S512x768 .f32 :=
  Gen.k0_pay14 Gen.k0_pay3 g.q0 g.lo3 (Gen.k0_pay12 Gen.k0_pay3 g.q0 (g.kAt 0 3) (g.vAt 0 3)) (Gen.k0_pay13 Gen.k0_pay3 g.q0 (g.kAt 0 3))
    (g.woAt 3) (g.kAt 0 4) (g.vAt 0 4) (g.woAt 4)
def lo7 : FVec F S512x768 .f32 :=
  Gen.k0_pay17 Gen.k0_pay3 g.q0 g.lo5 (Gen.k0_pay15 (g.vAt 0 5)) (Gen.k0_pay16 g.q0 (g.kAt 0 5)) (g.woAt 5) (g.kAt 0 6) (g.vAt 0 6) (g.woAt 6)
def lo : FVec F S512x768 .bf16 :=
  Gen.k0_pay19 Gen.k0_pay3 g.lo7 (Gen.k0_pay18 g.q0) (g.kAt 0 7) (g.vAt 0 7) (g.woAt 7)

/-! The second batch's half, after 1, 3, 4, 6 and all 8 heads. -/

def p1 : FVec F S512x512 .f32 := Gen.k0_pay20 (g.xAt 1) g.wqAll
def q1 : FVec F S512x512 .bf16 := Gen.k0_pay21 g.p1
def hi1 : FVec F S512x768 .f32 := Gen.k0_pay22 Gen.k0_pay3 g.p1 (g.kAt 1 0) (g.vAt 1 0) (g.woAt 0)
def hi3 : FVec F S512x768 .f32 :=
  Gen.k0_pay25 Gen.k0_pay3 g.q1 g.hi1 (Gen.k0_pay23 (g.vAt 1 1)) (Gen.k0_pay24 Gen.k0_pay3 g.p1 (g.kAt 1 1)) (g.woAt 1)
    (g.kAt 1 2) (g.vAt 1 2) (g.woAt 2)
def hi4 : FVec F S512x768 .f32 :=
  Gen.k0_pay27 Gen.k0_pay3 g.hi3 (Gen.k0_pay26 g.q1) (g.kAt 1 3) (g.vAt 1 3) (g.woAt 3)
def hi6 : FVec F S512x768 .f32 :=
  Gen.k0_pay29 Gen.k0_pay3 g.q1 g.hi4 (Gen.k0_pay28 Gen.k0_pay3 g.q1 (g.kAt 1 4) (g.vAt 1 4)) (g.woAt 4) (g.kAt 1 5) (g.vAt 1 5) (g.woAt 5)
def hi : FVec F S512x768 .bf16 :=
  Gen.k0_pay32 Gen.k0_pay3 g.q1 g.hi6 (Gen.k0_pay30 (g.vAt 1 6)) (Gen.k0_pay31 Gen.k0_pay3 g.q1 (g.kAt 1 6)) (g.woAt 6)
    (g.kAt 1 7) (g.vAt 1 7) (g.woAt 7)

end Given

variable (c : Dev nD)

/-- A whole buffer of device `c`. -/
abbrev pt (b : Ref sig .tc) (f : b.ty.Contents (Elt F)) : sProp 𝕄 := (Memref.whole b).view.loc (c : Thread nD τ) ↦{fullShare} f

def ins (g : Given F) : sProp 𝕄 :=
  iprop(pt c cc0_stg0_0 g.x ∗ pt c cc0_stg1_0 g.wq ∗ pt c cc0_stg2_0 g.k ∗ pt c cc0_stg3_0 g.v ∗ pt c cc0_stg4_0 g.wo)

local notation "WP" => wp frame (wpE (defs₀ (F := F)) 𝒱₀ (c : Thread nD τ) none) Set.univ

variable (g : Given F)

/-! ## One load -/

theorem ldX (b : Fin 2) {off : Fin 3 → ℕ} (e : off = ![b.val, 0, 0]) {inb : ∀ a, off a + S1x512x768.size a ≤ S2x512x768.size a} {hl}
    {α : Type} {Q : α → sProp 𝕄} {k : _ → Prog (TpuEff nD τ sig (Elt F) Λ₀ .tc) α} :
    ins c g ⊢ iprop((ins c g -∗ WP (k (g.xAt b)) Q)
      -∗ WP (.op (.load (Memref.whole cc0_stg0_0) (Rect.unit (s := S2x512x768) off S1x512x768.size inb).toLoadRect hl) k) Q) := by
  subst e
  unfold ins
  iintro ⟨Hx, Hwq, Hk, Hv, Hwo⟩ HK
  iapply (wp_load (m := Memref.whole cc0_stg0_0) 𝒱₀ (c : Thread nD τ) none Set.univ (Finset.subset_univ _)) $$ Hx
  iintro Hx
  iapply HK
  isplitl [Hx]; · iexact Hx
  isplitl [Hwq]; · iexact Hwq
  isplitl [Hk]; · iexact Hk
  isplitl [Hv]; · iexact Hv
  iexact Hwo

theorem ldWq  {off : Fin 2 → ℕ} (e : off = ![0, 0]) {inb : ∀ a, off a + S768x512.size a ≤ S768x512.size a} {hl}
    {α : Type} {Q : α → sProp 𝕄} {k : _ → Prog (TpuEff nD τ sig (Elt F) Λ₀ .tc) α} :
    ins c g ⊢ iprop((ins c g -∗ WP (k (g.wqAll)) Q)
      -∗ WP (.op (.load (Memref.whole cc0_stg1_0) (Rect.unit (s := S768x512) off S768x512.size inb).toLoadRect hl) k) Q) := by
  subst e
  unfold ins
  iintro ⟨Hx, Hwq, Hk, Hv, Hwo⟩ HK
  iapply (wp_load (m := Memref.whole cc0_stg1_0) 𝒱₀ (c : Thread nD τ) none Set.univ (Finset.subset_univ _)) $$ Hwq
  iintro Hwq
  iapply HK
  isplitl [Hx]; · iexact Hx
  isplitl [Hwq]; · iexact Hwq
  isplitl [Hk]; · iexact Hk
  isplitl [Hv]; · iexact Hv
  iexact Hwo

theorem ldK (b : Fin 2) (h : Fin 8) {off : Fin 4 → ℕ} (e : off = ![b.val, 0, h.val, 0]) {inb : ∀ a, off a + S1x512x1x64.size a ≤ S2x512x8x64.size a} {hl}
    {α : Type} {Q : α → sProp 𝕄} {k : _ → Prog (TpuEff nD τ sig (Elt F) Λ₀ .tc) α} :
    ins c g ⊢ iprop((ins c g -∗ WP (k (g.kAt b h)) Q)
      -∗ WP (.op (.load (Memref.whole cc0_stg2_0) (Rect.unit (s := S2x512x8x64) off S1x512x1x64.size inb).toLoadRect hl) k) Q) := by
  subst e
  unfold ins
  iintro ⟨Hx, Hwq, Hk, Hv, Hwo⟩ HK
  iapply (wp_load (m := Memref.whole cc0_stg2_0) 𝒱₀ (c : Thread nD τ) none Set.univ (Finset.subset_univ _)) $$ Hk
  iintro Hk
  iapply HK
  isplitl [Hx]; · iexact Hx
  isplitl [Hwq]; · iexact Hwq
  isplitl [Hk]; · iexact Hk
  isplitl [Hv]; · iexact Hv
  iexact Hwo

theorem ldV (b : Fin 2) (h : Fin 8) {off : Fin 4 → ℕ} (e : off = ![b.val, 0, h.val, 0]) {inb : ∀ a, off a + S1x512x1x64.size a ≤ S2x512x8x64.size a} {hl}
    {α : Type} {Q : α → sProp 𝕄} {k : _ → Prog (TpuEff nD τ sig (Elt F) Λ₀ .tc) α} :
    ins c g ⊢ iprop((ins c g -∗ WP (k (g.vAt b h)) Q)
      -∗ WP (.op (.load (Memref.whole cc0_stg3_0) (Rect.unit (s := S2x512x8x64) off S1x512x1x64.size inb).toLoadRect hl) k) Q) := by
  subst e
  unfold ins
  iintro ⟨Hx, Hwq, Hk, Hv, Hwo⟩ HK
  iapply (wp_load (m := Memref.whole cc0_stg3_0) 𝒱₀ (c : Thread nD τ) none Set.univ (Finset.subset_univ _)) $$ Hv
  iintro Hv
  iapply HK
  isplitl [Hx]; · iexact Hx
  isplitl [Hwq]; · iexact Hwq
  isplitl [Hk]; · iexact Hk
  isplitl [Hv]; · iexact Hv
  iexact Hwo

theorem ldO (h : Fin 8) {off : Fin 2 → ℕ} (e : off = ![64 * h.val, 0]) {inb : ∀ a, off a + S64x768.size a ≤ S512x768.size a} {hl}
    {α : Type} {Q : α → sProp 𝕄} {k : _ → Prog (TpuEff nD τ sig (Elt F) Λ₀ .tc) α} :
    ins c g ⊢ iprop((ins c g -∗ WP (k (g.woAt h)) Q)
      -∗ WP (.op (.load (Memref.whole cc0_stg4_0) (Rect.unit (s := S512x768) off S64x768.size inb).toLoadRect hl) k) Q) := by
  subst e
  unfold ins
  iintro ⟨Hx, Hwq, Hk, Hv, Hwo⟩ HK
  iapply (wp_load (m := Memref.whole cc0_stg4_0) 𝒱₀ (c : Thread nD τ) none Set.univ (Finset.subset_univ _)) $$ Hwo
  iintro Hwo
  iapply HK
  isplitl [Hx]; · iexact Hx
  isplitl [Hwq]; · iexact Hwq
  isplitl [Hk]; · iexact Hk
  isplitl [Hv]; · iexact Hv
  iexact Hwo

/-! ## The parts -/

theorem run2 {h0 h1 h2 h3 h4 arg5 h5 h6 h7 h8} {v16 v24 v25 v30 v31} {β : Type}
    {kk : _ → Prog (TpuEff nD τ sig (Elt F) Λ₀ .tc) β} {Q : β → sProp 𝕄} :
    ins c g ⊢ iprop((ins c g -∗ WP (kk ⟨Gen.k0_pay8 v16 v24 v25 v30 v31 (g.woAt 0) (g.kAt 0 1) (g.vAt 0 1) (g.woAt 1), Gen.k0_pay9 v24⟩) Q)
      -∗ WP (k0_part2 (Memref.whole cc0_stg0_0) h0 (Memref.whole cc0_stg1_0) h1 (Memref.whole cc0_stg2_0) h2 (Memref.whole cc0_stg3_0) h3 (Memref.whole cc0_stg4_0) h4 arg5 h5 (Memref.whole cc0_scratch0) h6 (Memref.whole cc0_scratch1) h7 (Memref.whole cc0_scratch2) h8 cc0_scratch3 cc0_scratch4 cc0_scratch5 cc0_scratch6
          v16 v24 v25 v30 v31 >>= kk) Q) := by
  rw [Gen.k0_part2_eq_skeleton]
  unfold Gen.k0_part2_skel
  simp only [Prog.lift, Prog.bind_op, Prog.bind_ret]
  iintro H HK
  iapply (ldO c g 0 rfl) $$ H; iintro H
  iapply (ldK c g 0 1 rfl) $$ H; iintro H
  iapply (ldV c g 0 1 rfl) $$ H; iintro H
  iapply (ldO c g 1 rfl) $$ H; iintro H
  iapply HK $$ H

theorem run3 {h0 h1 h2 h3 h4 arg5 h5 h6 h7 h8} {v16 v24 v67 v68} {β : Type}
    {kk : _ → Prog (TpuEff nD τ sig (Elt F) Λ₀ .tc) β} {Q : β → sProp 𝕄} :
    ins c g ⊢ iprop((ins c g -∗ WP (kk ⟨Gen.k0_pay10 v16 v67 v68 (g.kAt 0 2) (g.vAt 0 2) (g.woAt 2), Gen.k0_pay12 v16 v24 (g.kAt 0 3) (g.vAt 0 3), Gen.k0_pay13 v16 v24 (g.kAt 0 3)⟩) Q)
      -∗ WP (k0_part3 (Memref.whole cc0_stg0_0) h0 (Memref.whole cc0_stg1_0) h1 (Memref.whole cc0_stg2_0) h2 (Memref.whole cc0_stg3_0) h3 (Memref.whole cc0_stg4_0) h4 arg5 h5 (Memref.whole cc0_scratch0) h6 (Memref.whole cc0_scratch1) h7 (Memref.whole cc0_scratch2) h8 cc0_scratch3 cc0_scratch4 cc0_scratch5 cc0_scratch6
          v16 v24 v67 v68 >>= kk) Q) := by
  rw [Gen.k0_part3_eq_skeleton]
  unfold Gen.k0_part3_skel
  simp only [Prog.lift, Prog.bind_op, Prog.bind_ret]
  iintro H HK
  iapply (ldK c g 0 2 rfl) $$ H; iintro H
  iapply (ldV c g 0 2 rfl) $$ H; iintro H
  iapply (ldO c g 2 rfl) $$ H; iintro H
  iapply (ldK c g 0 3 rfl) $$ H; iintro H
  iapply (ldV c g 0 3 rfl) $$ H; iintro H
  iapply HK $$ H

theorem run4 {h0 h1 h2 h3 h4 arg5 h5 h6 h7 h8} {v16 v24 v88 v102 v103} {β : Type}
    {kk : _ → Prog (TpuEff nD τ sig (Elt F) Λ₀ .tc) β} {Q : β → sProp 𝕄} :
    ins c g ⊢ iprop((ins c g -∗ WP (kk ⟨Gen.k0_pay14 v16 v24 v88 v102 v103 (g.woAt 3) (g.kAt 0 4) (g.vAt 0 4) (g.woAt 4), Gen.k0_pay15 (g.vAt 0 5), Gen.k0_pay16 v24 (g.kAt 0 5)⟩) Q)
      -∗ WP (k0_part4 (Memref.whole cc0_stg0_0) h0 (Memref.whole cc0_stg1_0) h1 (Memref.whole cc0_stg2_0) h2 (Memref.whole cc0_stg3_0) h3 (Memref.whole cc0_stg4_0) h4 arg5 h5 (Memref.whole cc0_scratch0) h6 (Memref.whole cc0_scratch1) h7 (Memref.whole cc0_scratch2) h8 cc0_scratch3 cc0_scratch4 cc0_scratch5 cc0_scratch6
          v16 v24 v88 v102 v103 >>= kk) Q) := by
  rw [Gen.k0_part4_eq_skeleton]
  unfold Gen.k0_part4_skel
  simp only [Prog.lift, Prog.bind_op, Prog.bind_ret]
  iintro H HK
  iapply (ldO c g 3 rfl) $$ H; iintro H
  iapply (ldK c g 0 4 rfl) $$ H; iintro H
  iapply (ldV c g 0 4 rfl) $$ H; iintro H
  iapply (ldO c g 4 rfl) $$ H; iintro H
  iapply (ldK c g 0 5 rfl) $$ H; iintro H
  iapply (ldV c g 0 5 rfl) $$ H; iintro H
  iapply HK $$ H

theorem run5 {h0 h1 h2 h3 h4 arg5 h5 h6 h7 h8} {v16 v24 v130 v135 v136} {β : Type}
    {kk : _ → Prog (TpuEff nD τ sig (Elt F) Λ₀ .tc) β} {Q : β → sProp 𝕄} :
    ins c g ⊢ iprop((ins c g -∗ WP (kk ⟨Gen.k0_pay17 v16 v24 v130 v135 v136 (g.woAt 5) (g.kAt 0 6) (g.vAt 0 6) (g.woAt 6), Gen.k0_pay18 v24⟩) Q)
      -∗ WP (k0_part5 (Memref.whole cc0_stg0_0) h0 (Memref.whole cc0_stg1_0) h1 (Memref.whole cc0_stg2_0) h2 (Memref.whole cc0_stg3_0) h3 (Memref.whole cc0_stg4_0) h4 arg5 h5 (Memref.whole cc0_scratch0) h6 (Memref.whole cc0_scratch1) h7 (Memref.whole cc0_scratch2) h8 cc0_scratch3 cc0_scratch4 cc0_scratch5 cc0_scratch6
          v16 v24 v130 v135 v136 >>= kk) Q) := by
  rw [Gen.k0_part5_eq_skeleton]
  unfold Gen.k0_part5_skel
  simp only [Prog.lift, Prog.bind_op, Prog.bind_ret]
  iintro H HK
  iapply (ldO c g 5 rfl) $$ H; iintro H
  iapply (ldK c g 0 6 rfl) $$ H; iintro H
  iapply (ldV c g 0 6 rfl) $$ H; iintro H
  iapply (ldO c g 6 rfl) $$ H; iintro H
  iapply HK $$ H

theorem run7 {h0 h1 h2 h3 h4 arg5 h5 h6 h7 h8} {v16 v203} {β : Type}
    {kk : _ → Prog (TpuEff nD τ sig (Elt F) Λ₀ .tc) β} {Q : β → sProp 𝕄} :
    ins c g ⊢ iprop((ins c g -∗ WP (kk ⟨Gen.k0_pay21 v203, Gen.k0_pay22 v16 v203 (g.kAt 1 0) (g.vAt 1 0) (g.woAt 0), Gen.k0_pay23 (g.vAt 1 1), Gen.k0_pay24 v16 v203 (g.kAt 1 1)⟩) Q)
      -∗ WP (k0_part7 (Memref.whole cc0_stg0_0) h0 (Memref.whole cc0_stg1_0) h1 (Memref.whole cc0_stg2_0) h2 (Memref.whole cc0_stg3_0) h3 (Memref.whole cc0_stg4_0) h4 arg5 h5 (Memref.whole cc0_scratch0) h6 (Memref.whole cc0_scratch1) h7 (Memref.whole cc0_scratch2) h8 cc0_scratch3 cc0_scratch4 cc0_scratch5 cc0_scratch6
          v16 v203 >>= kk) Q) := by
  rw [Gen.k0_part7_eq_skeleton]
  unfold Gen.k0_part7_skel
  simp only [Prog.lift, Prog.bind_op, Prog.bind_ret]
  iintro H HK
  iapply (ldK c g 1 0 rfl) $$ H; iintro H
  iapply (ldV c g 1 0 rfl) $$ H; iintro H
  iapply (ldO c g 0 rfl) $$ H; iintro H
  iapply (ldK c g 1 1 rfl) $$ H; iintro H
  iapply (ldV c g 1 1 rfl) $$ H; iintro H
  iapply HK $$ H

theorem run8 {h0 h1 h2 h3 h4 arg5 h5 h6 h7 h8} {v16 v206 v228 v233 v236} {β : Type}
    {kk : _ → Prog (TpuEff nD τ sig (Elt F) Λ₀ .tc) β} {Q : β → sProp 𝕄} :
    ins c g ⊢ iprop((ins c g -∗ WP (kk ⟨Gen.k0_pay25 v16 v206 v228 v233 v236 (g.woAt 1) (g.kAt 1 2) (g.vAt 1 2) (g.woAt 2), Gen.k0_pay26 v206, g.kAt 1 3⟩) Q)
      -∗ WP (k0_part8 (Memref.whole cc0_stg0_0) h0 (Memref.whole cc0_stg1_0) h1 (Memref.whole cc0_stg2_0) h2 (Memref.whole cc0_stg3_0) h3 (Memref.whole cc0_stg4_0) h4 arg5 h5 (Memref.whole cc0_scratch0) h6 (Memref.whole cc0_scratch1) h7 (Memref.whole cc0_scratch2) h8 cc0_scratch3 cc0_scratch4 cc0_scratch5 cc0_scratch6
          v16 v206 v228 v233 v236 >>= kk) Q) := by
  rw [Gen.k0_part8_eq_skeleton]
  unfold Gen.k0_part8_skel
  simp only [Prog.lift, Prog.bind_op, Prog.bind_ret]
  iintro H HK
  iapply (ldO c g 1 rfl) $$ H; iintro H
  iapply (ldK c g 1 2 rfl) $$ H; iintro H
  iapply (ldV c g 1 2 rfl) $$ H; iintro H
  iapply (ldO c g 2 rfl) $$ H; iintro H
  iapply (ldK c g 1 3 rfl) $$ H; iintro H
  iapply HK $$ H

theorem run9 {h0 h1 h2 h3 h4 arg5 h5 h6 h7 h8} {v16 v206 v270 v271 v272} {β : Type}
    {kk : _ → Prog (TpuEff nD τ sig (Elt F) Λ₀ .tc) β} {Q : β → sProp 𝕄} :
    ins c g ⊢ iprop((ins c g -∗ WP (kk ⟨Gen.k0_pay27 v16 v270 v271 v272 (g.vAt 1 3) (g.woAt 3), Gen.k0_pay28 v16 v206 (g.kAt 1 4) (g.vAt 1 4)⟩) Q)
      -∗ WP (k0_part9 (Memref.whole cc0_stg0_0) h0 (Memref.whole cc0_stg1_0) h1 (Memref.whole cc0_stg2_0) h2 (Memref.whole cc0_stg3_0) h3 (Memref.whole cc0_stg4_0) h4 arg5 h5 (Memref.whole cc0_scratch0) h6 (Memref.whole cc0_scratch1) h7 (Memref.whole cc0_scratch2) h8 cc0_scratch3 cc0_scratch4 cc0_scratch5 cc0_scratch6
          v16 v206 v270 v271 v272 >>= kk) Q) := by
  rw [Gen.k0_part9_eq_skeleton]
  unfold Gen.k0_part9_skel
  simp only [Prog.lift, Prog.bind_op, Prog.bind_ret]
  iintro H HK
  iapply (ldV c g 1 3 rfl) $$ H; iintro H
  iapply (ldO c g 3 rfl) $$ H; iintro H
  iapply (ldK c g 1 4 rfl) $$ H; iintro H
  iapply (ldV c g 1 4 rfl) $$ H; iintro H
  iapply HK $$ H

theorem run10 {h0 h1 h2 h3 h4 arg5 h5 h6 h7 h8} {v16 v206 v291 v308} {β : Type}
    {kk : _ → Prog (TpuEff nD τ sig (Elt F) Λ₀ .tc) β} {Q : β → sProp 𝕄} :
    ins c g ⊢ iprop((ins c g -∗ WP (kk ⟨Gen.k0_pay29 v16 v206 v291 v308 (g.woAt 4) (g.kAt 1 5) (g.vAt 1 5) (g.woAt 5), Gen.k0_pay30 (g.vAt 1 6), Gen.k0_pay31 v16 v206 (g.kAt 1 6)⟩) Q)
      -∗ WP (k0_part10 (Memref.whole cc0_stg0_0) h0 (Memref.whole cc0_stg1_0) h1 (Memref.whole cc0_stg2_0) h2 (Memref.whole cc0_stg3_0) h3 (Memref.whole cc0_stg4_0) h4 arg5 h5 (Memref.whole cc0_scratch0) h6 (Memref.whole cc0_scratch1) h7 (Memref.whole cc0_scratch2) h8 cc0_scratch3 cc0_scratch4 cc0_scratch5 cc0_scratch6
          v16 v206 v291 v308 >>= kk) Q) := by
  rw [Gen.k0_part10_eq_skeleton]
  unfold Gen.k0_part10_skel
  simp only [Prog.lift, Prog.bind_op, Prog.bind_ret]
  iintro H HK
  iapply (ldO c g 4 rfl) $$ H; iintro H
  iapply (ldK c g 1 5 rfl) $$ H; iintro H
  iapply (ldV c g 1 5 rfl) $$ H; iintro H
  iapply (ldO c g 5 rfl) $$ H; iintro H
  iapply (ldK c g 1 6 rfl) $$ H; iintro H
  iapply (ldV c g 1 6 rfl) $$ H; iintro H
  iapply HK $$ H

end Cert.KernelIdeal
-- ==== Proof.Blocks.lean ====
/-
The three scratch buffers cut into the blocks the exchange moves, and put together again; what the body's own
stores leave in them.
-/
module

public import proofs.«01_k».proof.Proof.Reads
public import Idealize.ShloMosaic.Lib.Ring
public import Idealize.ShloMosaic.Lib.ValueLayout
public import Idealize.ShloMosaic.Lib.ShareLeaves

@[expose] public section

noncomputable section

namespace Cert.KernelIdeal

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## One device's own block beside the others' -/

variable (c : Dev nD)

/-- Only device `c`'s own block. -/
def own (Φ : Dev nD → sProp 𝕄) (p : Dev nD) : sProp 𝕄 := if p = c then Φ p else BI.emp

theorem own_self (Φ : Dev nD → sProp 𝕄) : own c Φ c = Φ c := if_pos rfl
theorem own_ne {p : Dev nD} (h : p ≠ c) (Φ : Dev nD → sProp 𝕄) : own c Φ p = BI.emp := if_neg h

theorem other_own (Φ : Dev nD → sProp 𝕄) (p : Dev nD) : Φ p ⊢ iprop(other c Φ p ∗ own c Φ p) := by
  by_cases h : p = c
  · subst h
    rw [other_self, own_self]
    iintro H
    isplitr; · iempintro
    iexact H
  · rw [other_ne h, own_ne c h]
    iintro H
    isplitl [H]; · iexact H
    iempintro

theorem sep_own (Φ : Dev nD → sProp 𝕄) : bigSep Finset.univ (own c Φ) ⊢ Φ c := by
  rw [bigSep_univ_split c, own_self]
  exact sep_elim_left

/-- A family over the others from two. -/
theorem other_mono {Φ Ψ X : Dev nD → sProp 𝕄} (h : ∀ p, p ≠ c → iprop(Φ p ∗ Ψ p) ⊢ X p) (p : Dev nD) :
    iprop(other c Φ p ∗ other c Ψ p) ⊢ other c X p := by
  by_cases hp : p = c
  · subst hp
    rw [other_self, other_self, other_self]
    iintro -
    iempintro
  · rw [other_ne hp, other_ne hp, other_ne hp]
    exact h p hp

/-! ## Whole buffers and their blocks -/

theorem accPt_eq (p : Dev nD) (q : PosShare TreeShare) (f : cc0_scratch0.ty.Contents (Elt F)) :
    accPt c p q f = ((c : Thread nD τ).loc cc0_scratch0 ↦[rowSet p]{q} f : sProp 𝕄) :=
  congrArg (fun S : Finset S1024x768.Idx => ((c : Thread nD τ).loc cc0_scratch0 ↦[S]{q} f : sProp 𝕄)) (set_accRows p)
theorem acc_blocks (f : cc0_scratch0.ty.Contents (Elt F)) :
    pt c cc0_scratch0 f = bigSep Finset.univ fun p => accPt c p fullShare f := by
  rw [bigSep_congr fun p _ => accPt_eq c p fullShare f]
  exact Ring.pointsTo_blocks (ℓ := (c : Thread nD τ).loc cc0_scratch0) rowSet rowSet_disjoint rowSet_cover f

theorem resPt_eq (p : Dev nD) (q : PosShare TreeShare) (f : cc0_scratch2.ty.Contents (Elt F)) :
    resPt c p q f = ((c : Thread nD τ).loc cc0_scratch2 ↦[rowSet p]{q} f : sProp 𝕄) :=
  congrArg (fun S : Finset S1024x768.Idx => ((c : Thread nD τ).loc cc0_scratch2 ↦[S]{q} f : sProp 𝕄)) (set_resRows p)
theorem res_blocks (f : cc0_scratch2.ty.Contents (Elt F)) :
    pt c cc0_scratch2 f = bigSep Finset.univ fun p => resPt c p fullShare f := by
  rw [bigSep_congr fun p _ => resPt_eq c p fullShare f]
  exact Ring.pointsTo_blocks (ℓ := (c : Thread nD τ).loc cc0_scratch2) rowSet rowSet_disjoint rowSet_cover f

theorem slotPt_eq (p : Dev nD) (q : PosShare TreeShare) (f : cc0_scratch1.ty.Contents (Elt F)) :
    slotPt c p q f = ((c : Thread nD τ).loc cc0_scratch1 ↦[slotSet p]{q} f : sProp 𝕄) :=
  congrArg (fun S : Finset S32x32x768.Idx => ((c : Thread nD τ).loc cc0_scratch1 ↦[S]{q} f : sProp 𝕄)) (set_slotOf p)
theorem slot_blocks (f : cc0_scratch1.ty.Contents (Elt F)) :
    pt c cc0_scratch1 f = bigSep Finset.univ fun p => slotPt c p fullShare f := by
  rw [bigSep_congr fun p _ => slotPt_eq c p fullShare f]
  exact Ring.pointsTo_blocks (ℓ := (c : Thread nD τ).loc cc0_scratch1) slotSet slotSet_disjoint slotSet_cover f

/-- The rows of the partial product one batch gives. -/
def halfD (b : Fin 2) (t : Fin 16) : Dev nD := if b = 0 then loD t else hiD t
def halfSet (b : Fin 2) : Finset S1024x768.Idx := Finset.univ.biUnion fun t => rowSet (halfD b t)

theorem halfD_val (b : Fin 2) (t : Fin 16) : (halfD b t).val = 16 * b.val + t.val := by
  unfold halfD
  split
  · next h => subst h; show t.val = 16 * 0 + t.val; omega
  · next h =>
    have : b.val = 1 := by have := b.isLt; have h' : b.val ≠ 0 := fun e => h (Fin.ext e); omega
    show t.val + 16 = 16 * b.val + t.val; omega

theorem mem_halfSet {b : Fin 2} {i : S1024x768.Idx} : i ∈ halfSet b ↔ (i 0).val / 512 = b.val := by
  have hi : (i 0).val < 1024 := (i 0).isLt
  have hb := b.isLt
  unfold halfSet
  rw [Finset.mem_biUnion]
  constructor
  · rintro ⟨t, -, h⟩
    rw [mem_rowSet] at h
    have h' : (i 0).val / 32 = (halfD b t).val := congrArg Fin.val h
    rw [halfD_val] at h'
    have ht := t.isLt
    omega
  · intro h
    refine ⟨⟨(i 0).val / 32 - 16 * b.val, by omega⟩, Finset.mem_univ _, ?_⟩
    rw [mem_rowSet]
    apply Fin.ext
    rw [halfD_val]
    show (i 0).val / 32 = 16 * b.val + ((i 0).val / 32 - 16 * b.val)
    omega

theorem half_disjoint (b : Fin 2) {t t' : Fin 16} (h : t ≠ t') :
    Disjoint (rowSet (halfD b t)) (rowSet (halfD b t')) := by
  refine rowSet_disjoint _ _ fun e => h (Fin.ext ?_)
  have := congrArg Fin.val e
  rw [halfD_val, halfD_val] at this
  omega

/-- Half of the accumulator. -/
abbrev halfPt (b : Fin 2) (f : cc0_scratch0.ty.Contents (Elt F)) : sProp 𝕄 := (c : Thread nD τ).loc cc0_scratch0 ↦[halfSet b]{fullShare} f

theorem half_blocks (b : Fin 2) (f : cc0_scratch0.ty.Contents (Elt F)) :
    halfPt c b f = bigSep Finset.univ fun t : Fin 16 => accPt c (halfD b t) fullShare f := by
  rw [bigSep_congr fun t _ => accPt_eq c (halfD b t) fullShare f]
  exact pointsTo_biUnion (ℓ := (c : Thread nD τ).loc cc0_scratch0) Finset.univ (fun t => rowSet (halfD b t)) fun t _ t' _ h => half_disjoint b h

/-- The whole accumulator is its two halves. -/
theorem acc_halves (f : cc0_scratch0.ty.Contents (Elt F)) :
    pt c cc0_scratch0 f ⊢ iprop(halfPt c 0 f ∗ halfPt c 1 f) := by
  rw [acc_blocks, half_blocks, half_blocks, sep_halves]
  exact .rfl

/-- Blocks each at some contents are the buffer at some contents. -/
theorem acc_join : bigSep Finset.univ (fun p => iprop(∃ f, accPt (F := F) c p fullShare f)) ⊢ iprop(∃ f, pt (F := F) c cc0_scratch0 f) := by
  simp only [accPt_eq]
  exact Ring.pointsTo_blocks_join_exists (ℓ := (c : Thread nD τ).loc cc0_scratch0) rowSet rowSet_disjoint rowSet_cover (fun _ => default)

/-! ## What the stores leave -/

/-- What a store puts at a place it writes. -/
theorem write_at {κ sp s e'} (v : View sig κ sp s e') (f : v.ty.Contents (Elt F)) (w : s.Idx → Elt F e') {x : s.Idx} {i} (e : v.emb x = i) :
    v.write (Elt F) f w Finset.univ i = _root_.cast (congrArg (Elt F) v.elt_eq.symm) (w x) := by
  subst e; exact View.write_emb_of_mem f w (Finset.mem_univ _)

/-- The partial product of one device. -/
def prod (g : Given F) : cc0_scratch0.ty.Contents (Elt F) := fun i =>
  if (i 0).val / 512 = 0 then g.lo (ix2 (⟨(i 0).val % 512, Nat.mod_lt _ (by decide)⟩ : Fin 512) (i 1))
  else g.hi (ix2 (⟨(i 0).val % 512, Nat.mod_lt _ (by decide)⟩ : Fin 512) (i 1))

theorem half_inb (b : Fin 2) : ∀ a, (![512 * b.val, 0] : Fin 2 → ℕ) a + S512x768.size a ≤ S1024x768.size a := by
  revert b; decide

abbrev halfR (b : Fin 2) : Rect S1024x768 := Rect.unit (s := S1024x768) ![512 * b.val, 0] S512x768.size (half_inb b)

/-- The row of the accumulator that row `x` of half `b` is. -/
def halfIx (b : Fin 2) (x : S512x768.Idx) : S1024x768.Idx :=
  ix2 (⟨512 * b.val + (x 0).val, by have h := b.isLt; have h' : (x 0).val < 512 := (x 0).isLt; omega⟩ : Fin 1024) (x 1)

theorem emb_halfR (b : Fin 2) (x : S512x768.Idx) : (halfR b).emb x = halfIx b x := by
  funext a
  apply Fin.ext
  match a with
  | ⟨0, _⟩ => show 512 * b.val + 1 * (x 0).val = 512 * b.val + (x 0).val; omega
  | ⟨1, _⟩ => show 0 + 1 * (x 1).val = (x 1).val; omega

def halfIn (i : S1024x768.Idx) : S512x768.Idx := ix2 (⟨(i 0).val % 512, Nat.mod_lt _ (by decide)⟩ : Fin 512) (i 1)

theorem halfIx_eta {b : Fin 2} {i : S1024x768.Idx} (h : i ∈ halfSet b) : halfIx b (halfIn i) = i := by
  have hi := mem_halfSet.mp h
  funext a
  apply Fin.ext
  match a with
  | ⟨0, _⟩ => show 512 * b.val + (i 0).val % 512 = (i 0).val; omega
  | ⟨1, _⟩ => rfl

theorem half_subset (b : Fin 2) : (halfR b).set ⊆ halfSet b := by
  intro i hi
  rw [← Rect.map_emb_univ, Finset.mem_map] at hi
  obtain ⟨x, -, rfl⟩ := hi
  rw [emb_halfR, mem_halfSet]
  have h' : (x 0).val < 512 := (x 0).isLt
  show (512 * b.val + (x 0).val) / 512 = b.val
  omega

/-- A store into a half puts its payload there. -/
theorem half_stored (b : Fin 2) (f : cc0_scratch0.ty.Contents (Elt F)) (w : FVec F S512x768 .bf16) {i : S1024x768.Idx} (h : i ∈ halfSet b) :
    ((Memref.whole cc0_scratch0).access (halfR b)).write (Elt F) f w Finset.univ i = w (halfIn i) :=
  write_at ((Memref.whole cc0_scratch0).access (halfR b)) f w ((emb_halfR b _).trans (halfIx_eta h))

theorem prod_lo (g : Given F) {i : S1024x768.Idx} (h : i ∈ halfSet 0) : prod g i = g.lo (halfIn i) := if_pos (mem_halfSet.mp h)
theorem prod_hi (g : Given F) {i : S1024x768.Idx} (h : i ∈ halfSet 1) : prod g i = g.hi (halfIn i) :=
  if_neg fun h' => absurd ((mem_halfSet.mp h).symm.trans h') (by decide)

/-- A load of one device's rows reads them. -/
theorem rows_read (p : Dev nD) (f : cc0_scratch0.ty.Contents (Elt F)) :
    (Memref.whole cc0_scratch0).view.readAt (Elt F) (rowsR p).toLoadRect f = fun x => f (rowIx p x) :=
  funext fun x => congrArg f (emb_rowsR p x)

theorem rows_subset (p : Dev nD) : (rowsR p).set ⊆ rowSet p := by
  rw [← Rect.map_emb_univ]
  exact (map_rows p _ (emb_rowsR p)).subset

/-- The slot a device stores its own rows in. -/
theorem emb_slotR (p : Dev nD) (y : S1x32x768.Idx) : (slotR p).emb y = slotIx p (ix2 (y 1) (y 2)) := by
  have hy : (y 0).val < 1 := (y 0).isLt
  funext a
  apply Fin.ext
  match a with
  | ⟨0, _⟩ => show p.val + 1 * (y 0).val = p.val; omega
  | ⟨1, _⟩ => show 0 + 1 * (y 1).val = (y 1).val; omega
  | ⟨2, _⟩ => show 0 + 1 * (y 2).val = (y 2).val; omega

theorem slot_subset (p : Dev nD) : (slotR p).set ⊆ slotSet p := by
  intro i hi
  rw [← Rect.map_emb_univ, Finset.mem_map] at hi
  obtain ⟨x, -, rfl⟩ := hi
  rw [emb_slotR, mem_slotSet]
  rfl

theorem own_stored (A : Dev nD → cc0_scratch0.ty.Contents (Elt F)) (f : cc0_scratch1.ty.Contents (Elt F)) {i : S32x32x768.Idx} (h : i ∈ slotSet c) :
    ((Memref.whole cc0_scratch1).access (slotR c)).write (Elt F) f
      (Gen.k0_pay33 ((Memref.whole cc0_scratch0).view.readAt (Elt F) (rowsR c).toLoadRect (A c))) Finset.univ i = gath A c i := by
  have ho := mem_slotSet.mp h
  have e : ((Memref.whole cc0_scratch1).access (slotR c)).emb (ix3 (0 : Fin 1) (i 1) (i 2)) = i :=
    (emb_slotR c _).trans ((congrArg (slotIx · (slotIn i)) ho.symm).trans (slotIx_eta i))
  refine (write_at ((Memref.whole cc0_scratch1).access (slotR c)) f _ e).trans ?_
  rw [rows_read]
  refine (shapeCast_ab_1ab_apply (fun x => A c (rowIx c x)) _ (0 : Fin 1) (i 1) (i 2)).trans ?_
  unfold gath
  rw [ho]
  rfl

theorem total_stored (A : Dev nD → cc0_scratch0.ty.Contents (Elt F)) (f : cc0_scratch2.ty.Contents (Elt F)) {i : S1024x768.Idx} (h : i ∈ rowSet c) :
    ((Memref.whole cc0_scratch2).access (rowsR c)).write (Elt F) f (Gen.k0_pay34 (gath A c)) Finset.univ i = total A i := by
  have ho := mem_rowSet.mp h
  have e : ((Memref.whole cc0_scratch2).access (rowsR c)).emb (rowIn i) = i :=
    (emb_rowsR c _).trans ((congrArg (rowIx · (rowIn i)) ho.symm).trans (rowIx_eta i))
  refine (write_at ((Memref.whole cc0_scratch2).access (rowsR c)) f _ e).trans ?_
  unfold total red
  rw [ho]
  rfl

end Cert.KernelIdeal
-- ==== Proof.Phases.lean ====
/-
What a device holds between the loops of its body: the resources each loop takes, put together from what the
one before left.
-/
module

public import proofs.«01_k».proof.Proof.Blocks

@[expose] public section

noncomputable section

namespace Cert.KernelIdeal

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → cc0_scratch0.ty.Contents (Elt F)) (K : GSem nD τ sig → ℕ) (c : Dev nD)

/-! ## Families, two at a time -/

theorem zip {I : Type} (S : Finset I) (Φ Ψ : I → sProp 𝕄) : iprop(bigSep S Φ ∗ bigSep S Ψ) ⊢ bigSep S (fun i => iprop(Φ i ∗ Ψ i)) :=
  Entails.of_eq (bigSep_sep' S Φ Ψ).symm
theorem unzip {I : Type} (S : Finset I) (Φ Ψ : I → sProp 𝕄) : bigSep S (fun i => iprop(Φ i ∗ Ψ i)) ⊢ iprop(bigSep S Φ ∗ bigSep S Ψ) :=
  Entails.of_eq (bigSep_sep' S Φ Ψ)
theorem zip_with {I : Type} (S : Finset I) {Φ Ψ X : I → sProp 𝕄} (h : ∀ i, iprop(Φ i ∗ Ψ i) ⊢ X i) :
    iprop(bigSep S Φ ∗ bigSep S Ψ) ⊢ bigSep S X := (zip S Φ Ψ).trans (bigSep_mono fun i _ => h i)
theorem each_of {I : Type} (S : Finset I) {Φ Ψ : I → sProp 𝕄} (h : ∀ i, Φ i ⊢ Ψ i) : bigSep S Φ ⊢ bigSep S Ψ :=
  bigSep_mono fun i _ => h i
theorem own_apart (Φ : Dev nD → sProp 𝕄) : bigSep Finset.univ Φ = iprop(Φ c ∗ bigSep (Finset.univ.erase c) Φ) := bigSep_univ_split c

/-! ## From one loop to the next -/

/-- What device `c` has for device `p` from the start: to signal it, -/
def sigKit (p : Dev nD) : sProp 𝕄 :=
  iprop(dutyTok ER (barCell p) 0 c ∗ reached ER (barCell p) 0 ∗ reached ER (cell 1 c p) 0 ∗ reached ER (cell 3 c p) 0)
/-- to send it a partial product, -/
def aKit (p : Dev nD) : sProp 𝕄 :=
  iprop(dutyTok ER (cell 0 c p) 0 p ∗ reached ER (cell 0 c p) 0 ∗ dutyTok ER (cell 1 p c) 0 c)
/-- and to send it the reduced rows. -/
def bKit (p : Dev nD) : sProp 𝕄 :=
  iprop(dutyTok ER (cell 2 c p) 0 p ∗ reached ER (cell 2 c p) 0 ∗ dutyTok ER (cell 3 p c) 0 c)
/-- The same with what the barrier brings. -/
def aRest (p : Dev nD) : sProp 𝕄 := iprop((∃ f, slotPt p c fullShare f) ∗ aKit (F := F) c p ∗ reached ER (cell 1 p c) 0)
def bRest (p : Dev nD) : sProp 𝕄 := iprop((∃ f, resPt p c fullShare f) ∗ bKit (F := F) c p ∗ reached ER (cell 3 p c) 0)

/-- Everything but the barrier's signals is ready. -/
theorem sig_ready (f1 : cc0_scratch1.ty.Contents (Elt F)) (f2 : cc0_scratch2.ty.Contents (Elt F)) :
    iprop(pt c cc0_scratch1 f1 ∗ pt c cc0_scratch2 f2 ∗ bigSep (Finset.univ.erase c) (sigKit (F := F) c))
      ⊢ iprop(bigSep Finset.univ (fun t : Fin 31 => sigIn (F := F) c (turn c t)) ∗ slotPt c c fullShare f1 ∗ resPt c c fullShare f2) := by
  rw [slot_blocks, res_blocks, own_apart c (fun p => slotPt c p fullShare f1),
    own_apart c (fun p => resPt c p fullShare f2), ← sep_turn c (sigIn (F := F) c)]
  iintro ⟨⟨Hs, Hss⟩, ⟨Hr, Hrs⟩, Hk⟩
  isplitl [Hss Hrs Hk]
  · ihave H := (zip (Finset.univ.erase c) (fun p => slotPt c p fullShare f1) (fun p => resPt c p fullShare f2)) $$ [Hss Hrs]
    · isplitl [Hss]; · iexact Hss
      iexact Hrs
    ihave H := (zip (Finset.univ.erase c) (fun p => iprop(slotPt c p fullShare f1 ∗ resPt c p fullShare f2)) (sigKit (F := F) c)) $$ [H Hk]
    · isplitl [H]; · iexact H
      iexact Hk
    iapply (each_of (Finset.univ.erase c) fun p => ?_) $$ H
    unfold sigKit sigIn barPay
    iintro ⟨⟨Hs, Hr⟩, Ht, Hb, H1, H3⟩
    isplitl [Ht]; · iexact Ht
    isplitr [Hb]
    · isplitl [Hs]; · iexists f1; iexact Hs
      isplitl [Hr]; · iexists f2; iexact Hr
      isplitl [H1]; · iexact H1
      iexact H3
    iexact Hb
  isplitl [Hs]; · iexact Hs
  iexact Hr

/-- After the barrier the sends only lack the rows they send. -/
theorem rest_ready :
    iprop(bigSep (Finset.univ.erase c) (barPay (F := F) c) ∗ bigSep (Finset.univ.erase c) (aKit (F := F) c)
        ∗ bigSep (Finset.univ.erase c) (bKit (F := F) c))
      ⊢ iprop(bigSep (Finset.univ.erase c) (aRest (F := F) c) ∗ bigSep (Finset.univ.erase c) (bRest (F := F) c)) := by
  iintro ⟨Hb, Ha, Hk⟩
  ihave H := (zip (Finset.univ.erase c) (aKit (F := F) c) (bKit (F := F) c)) $$ [Ha Hk]
  · isplitl [Ha]; · iexact Ha
    iexact Hk
  ihave H := (zip (Finset.univ.erase c) (barPay (F := F) c) (fun p => iprop(aKit (F := F) c p ∗ bKit (F := F) c p))) $$ [Hb H]
  · isplitl [Hb]; · iexact Hb
    iexact H
  iapply (unzip (Finset.univ.erase c) (aRest (F := F) c) (bRest (F := F) c))
  iapply (each_of (Finset.univ.erase c) fun p => ?_) $$ H
  unfold barPay aRest bRest
  iintro ⟨⟨Hs, Hr, H1, H3⟩, Ha, Hb⟩
  isplitl [Hs Ha H1]
  · isplitl [Hs]; · iexact Hs
    isplitl [Ha]; · iexact Ha
    iexact H1
  isplitl [Hr]; · iexact Hr
  isplitl [Hb]; · iexact Hb
  iexact H3

theorem sendA_of (p : Dev nD) : iprop(accPt c p fullShare (A c) ∗ aRest c p) ⊢ sendAIn A c p := by
  unfold aRest aKit sendAIn
  iintro ⟨Ha, Hs, ⟨Ht, Hr, Ht'⟩, Hr'⟩
  isplitl [Ha]; · iexact Ha
  isplitl [Hs]; · iexact Hs
  isplitl [Ht]; · iexact Ht
  isplitl [Hr]; · iexact Hr
  isplitl [Ht']; · iexact Ht'
  iexact Hr'

theorem sendB_of (p : Dev nD) : iprop(resPt c c (part p) (total A) ∗ bRest c p) ⊢ sendBIn A c p := by
  unfold bRest bKit sendBIn
  iintro ⟨Ha, Hs, ⟨Ht, Hr, Ht'⟩, Hr'⟩
  isplitl [Ha]; · iexact Ha
  isplitl [Hs]; · iexact Hs
  isplitl [Ht]; · iexact Ht
  isplitl [Hr]; · iexact Hr
  isplitl [Ht']; · iexact Ht'
  iexact Hr'

/-- A half of the partial product, ready to be sent; the device's own rows stay. -/
theorem half_ready (b : Fin 2) :
    iprop(halfPt c b (A c) ∗ bigSep Finset.univ (fun t : Fin 16 => other c (aRest (F := F) c) (halfD b t)))
      ⊢ iprop(bigSep Finset.univ (fun t : Fin 16 => other c (sendAIn A c) (halfD b t))
        ∗ bigSep Finset.univ (fun t : Fin 16 => own c (fun p => accPt c p fullShare (A c)) (halfD b t))) := by
  rw [half_blocks]
  iintro ⟨Ha, Hr⟩
  ihave Ha := (each_of (Finset.univ) fun t : Fin 16 => other_own c (fun p => accPt c p fullShare (A c)) (halfD b t)) $$ Ha
  ihave Ha := (unzip (Finset.univ) (fun t : Fin 16 => other c (fun p => accPt c p fullShare (A c)) (halfD b t)) (fun t : Fin 16 => own c (fun p => accPt c p fullShare (A c)) (halfD b t))) $$ Ha
  icases Ha with ⟨Ha, Ho⟩
  isplitr [Ho]
  · ihave H := (zip (Finset.univ) (fun t : Fin 16 => other c (fun p => accPt c p fullShare (A c)) (halfD b t)) (fun t : Fin 16 => other c (aRest (F := F) c) (halfD b t))) $$ [Ha Hr]
    · isplitl [Ha]; · iexact Ha
      iexact Hr
    iapply (each_of (Finset.univ) fun t : Fin 16 => other_mono c (fun p _ => sendA_of A c p) (halfD b t)) $$ H
  iexact Ho

/-- The device's own rows, from both halves. -/
theorem own_halves (Φ : Dev nD → sProp 𝕄) :
    iprop(bigSep Finset.univ (fun t : Fin 16 => own c Φ (loD t)) ∗ bigSep Finset.univ (fun t : Fin 16 => own c Φ (hiD t))) ⊢ Φ c := by
  rw [← sep_halves]
  exact sep_own c Φ

/-- A family over the other devices, by halves. -/
theorem other_halves (Φ : Dev nD → sProp 𝕄) :
    bigSep (Finset.univ.erase c) Φ
      = iprop(bigSep Finset.univ (fun t : Fin 16 => other c Φ (loD t)) ∗ bigSep Finset.univ (fun t : Fin 16 => other c Φ (hiD t))) := by
  rw [sep_other, sep_halves]

theorem waited (k : Fin 4) :
    bigSep (Finset.univ.erase c) (waitOut A c k)
      ⊢ iprop(bigSep (Finset.univ.erase c) (fun p => pay A k c p) ∗ bigSep (Finset.univ.erase c) (fun p => atPos ER (cell k c p) 1 ∅ 0)) :=
  unzip (Finset.univ.erase c) (fun p => pay A k c p) (fun p => atPos ER (cell k c p) 1 ∅ 0)

/-- The gathered products are there. -/
theorem gather_done :
    iprop(slotPt c c fullShare (gath A c) ∗ bigSep Finset.univ (fun t : Fin 31 => waitOut A c 1 (turn c t)))
      ⊢ iprop(pt c cc0_scratch1 (gath A c) ∗ bigSep (Finset.univ.erase c) (fun p => atPos ER (cell 1 c p) 1 ∅ 0)) := by
  rw [slot_blocks, own_apart c (fun p => slotPt c p fullShare (gath A c)), ← sep_turn c (waitOut A c 1)]
  iintro ⟨Ho, H⟩
  ihave H := (waited A c 1) $$ H
  icases H with ⟨H, Hp⟩
  isplitr [Hp]
  · isplitl [Ho]; · iexact Ho
    iexact H
  iexact Hp

/-- The reduced rows at the share for each device. -/
theorem parts (f : cc0_scratch2.ty.Contents (Elt F)) :
    resPt c c fullShare f = bigSep Finset.univ fun p => resPt c c (part p) f := by
  rw [resPt_eq, bigSep_congr fun p _ => resPt_eq c c (part p) f]
  exact ShareLeaves.pointsTo_leaves (ℓ := (c : Thread nD τ).loc cc0_scratch2) (rowSet c) f 5 fullShare

theorem spread_ready :
    iprop(resPt c c fullShare (total A) ∗ bigSep (Finset.univ.erase c) (bRest (F := F) c))
      ⊢ iprop(bigSep Finset.univ (fun t : Fin 31 => sendBIn A c (turn c t)) ∗ resPt c c (part c) (total A)) := by
  rw [parts, own_apart c (fun p => resPt c c (part p) (total A)), ← sep_turn c (sendBIn A c)]
  iintro ⟨⟨Ho, Hs⟩, Hr⟩
  isplitr [Ho]
  · ihave H := (zip (Finset.univ.erase c) (fun p => resPt c c (part p) (total A)) (bRest (F := F) c)) $$ [Hs Hr]
    · isplitl [Hs]; · iexact Hs
      iexact Hr
    iapply (each_of (Finset.univ.erase c) fun p => sendB_of A c p) $$ H
  iexact Ho

/-- Everything is back. -/
theorem all_back :
    iprop(accPt c c fullShare (A c) ∗ resPt c c (part c) (total A)
        ∗ bigSep Finset.univ (fun t : Fin 31 => waitOut A c 3 (turn c t))
        ∗ bigSep Finset.univ (fun t : Fin 31 => iprop(waitOut A c 0 (turn c t) ∗ waitOut A c 2 (turn c t))))
      ⊢ iprop(pt c cc0_scratch0 (A c) ∗ pt c cc0_scratch2 (total A)
        ∗ bigSep (Finset.univ.erase c) (fun p => atPos ER (cell 0 c p) 1 ∅ 0)
        ∗ bigSep (Finset.univ.erase c) (fun p => atPos ER (cell 2 c p) 1 ∅ 0)
        ∗ bigSep (Finset.univ.erase c) (fun p => atPos ER (cell 3 c p) 1 ∅ 0)) := by
  rw [acc_blocks, res_blocks, own_apart c (fun p => accPt c p fullShare (A c)),
    own_apart c (fun p => resPt c p fullShare (total A)), parts,
    own_apart c (fun p => resPt c c (part p) (total A)),
    ← sep_turn c (waitOut A c 3), ← sep_turn c (fun p => iprop(waitOut A c 0 p ∗ waitOut A c 2 p))]
  iintro ⟨Ha, Hr, H3, H02⟩
  ihave H3 := (waited A c 3) $$ H3
  icases H3 with ⟨H3, P3⟩
  ihave H02 := (unzip (Finset.univ.erase c) (waitOut A c 0) (waitOut A c 2)) $$ H02
  icases H02 with ⟨H0, H2⟩
  ihave H0 := (waited A c 0) $$ H0
  icases H0 with ⟨H0, P0⟩
  ihave H2 := (waited A c 2) $$ H2
  icases H2 with ⟨H2, P2⟩
  isplitl [Ha H0]
  · isplitl [Ha]; · iexact Ha
    iexact H0
  isplitl [Hr H2 H3]
  · isplitr [H3]
    · isplitl [Hr]; · iexact Hr
      iexact H2
    iexact H3
  isplitl [P0]; · iexact P0
  isplitl [P2]; · iexact P2
  iexact P3

end Cert.KernelIdeal
-- ==== Proof.Parts.lean ====
/-
The parts of the body that wait, send and store, and with them the whole body at one device.
-/
module

public import proofs.«01_k».proof.Proof.Phases

@[expose] public section

noncomputable section

namespace Cert.KernelIdeal

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → cc0_scratch0.ty.Contents (Elt F)) (K : GSem nD τ sig → ℕ) (c : Dev nD) (g : Given F)

local notation "WP" => wp frame (wpE (defs₀ (F := F)) 𝒱₀ (c : Thread nD τ) none) Set.univ

/-! ## Loads and stores of parts of the scratch buffers -/

theorem setOn_whole (b : Ref sig .tc) (M : Finset b.ty.shape.Idx) : (Memref.whole b).view.setOn M = M := Finset.map_refl

theorem half_load (b : Fin 2) (f : cc0_scratch0.ty.Contents (Elt F)) {off : Fin 2 → ℕ} (e : off = ![512 * b.val, 0])
    {inb : ∀ a, off a + S512x768.size a ≤ S1024x768.size a} {hl}
    {α : Type} {Q : α → sProp 𝕄} {k : _ → Prog (TpuEff nD τ sig (Elt F) Λ₀ .tc) α} :
    halfPt c b f ⊢ iprop((∀ w, halfPt c b f -∗ WP (k w) Q)
      -∗ WP (.op (.load (Memref.whole cc0_scratch0) (Rect.unit (s := S1024x768) off S512x768.size inb).toLoadRect hl) k) Q) := by
  subst e
  iintro H HK
  iapply (wp_load (m := Memref.whole cc0_scratch0) (S := halfSet b) 𝒱₀ (c : Thread nD τ) none Set.univ
    (by rw [setOn_whole]; exact half_subset b)) $$ H
  iintro H
  iapply HK $$ H

theorem half_store (b : Fin 2) (f f' : cc0_scratch0.ty.Contents (Elt F)) (w : FVec F S512x768 .bf16) {off : Fin 2 → ℕ} (e : off = ![512 * b.val, 0])
    (hf : ∀ i ∈ halfSet b, f' i = w (halfIn i))
    {inb : ∀ a, off a + S512x768.size a ≤ S1024x768.size a} {hx hm}
    {α : Type} {Q : α → sProp 𝕄} {k : _ → Prog (TpuEff nD τ sig (Elt F) Λ₀ .tc) α} :
    halfPt c b f ⊢ iprop((halfPt c b f' -∗ WP (k ⟨⟩) Q)
      -∗ WP (.op (.store (Memref.whole cc0_scratch0) (Rect.unit (s := S1024x768) off S512x768.size inb) w Finset.univ hx hm) k) Q) := by
  subst e
  iintro H HK
  iapply (wp_store (m := Memref.whole cc0_scratch0) (r := halfR b) (S := halfSet b) 𝒱₀ (c : Thread nD τ) none Set.univ
    (by rw [View.setOn_univ, View.set_slice_whole]; exact half_subset b)) $$ H
  iintro H
  iapply HK
  iapply (Entails.of_eq (pointsTo_congr (ℓ := (c : Thread nD τ).loc cc0_scratch0) (I := halfSet b)
    fun i hi => (half_stored b f w hi).trans (hf i hi).symm)) $$ H

theorem acc_load (f : cc0_scratch0.ty.Contents (Elt F)) {off : Fin 2 → ℕ} (e : off = ![32 * c.val, 0])
    {inb : ∀ a, off a + S32x768.size a ≤ S1024x768.size a} {hl}
    {α : Type} {Q : α → sProp 𝕄} {k : _ → Prog (TpuEff nD τ sig (Elt F) Λ₀ .tc) α} :
    accPt c c fullShare f ⊢ iprop((accPt c c fullShare f
          -∗ WP (k ((Memref.whole cc0_scratch0).view.readAt (Elt F) (rowsR c).toLoadRect f)) Q)
      -∗ WP (.op (.load (Memref.whole cc0_scratch0) (Rect.unit (s := S1024x768) off S32x768.size inb).toLoadRect hl) k) Q) := by
  subst e
  rw [accPt_eq]
  exact wp_load (m := Memref.whole cc0_scratch0) (S := rowSet c) 𝒱₀ (c : Thread nD τ) none Set.univ
    (by rw [setOn_whole]; exact rows_subset c)

theorem slot_load (f : cc0_scratch1.ty.Contents (Elt F)) {off : Fin 3 → ℕ} (e : off = ![c.val, 0, 0])
    {inb : ∀ a, off a + S1x32x768.size a ≤ S32x32x768.size a} {hl}
    {α : Type} {Q : α → sProp 𝕄} {k : _ → Prog (TpuEff nD τ sig (Elt F) Λ₀ .tc) α} :
    slotPt c c fullShare f ⊢ iprop((∀ w, slotPt c c fullShare f -∗ WP (k w) Q)
      -∗ WP (.op (.load (Memref.whole cc0_scratch1) (Rect.unit (s := S32x32x768) off S1x32x768.size inb).toLoadRect hl) k) Q) := by
  subst e
  rw [slotPt_eq]
  iintro H HK
  iapply (wp_load (m := Memref.whole cc0_scratch1) (S := slotSet c) 𝒱₀ (c : Thread nD τ) none Set.univ
    (by rw [setOn_whole]; exact slot_subset c)) $$ H
  iintro H
  iapply HK $$ H

theorem slot_store (f : cc0_scratch1.ty.Contents (Elt F)) {off : Fin 3 → ℕ} (e : off = ![c.val, 0, 0])
    {inb : ∀ a, off a + S1x32x768.size a ≤ S32x32x768.size a} {hx hm}
    {α : Type} {Q : α → sProp 𝕄} {k : _ → Prog (TpuEff nD τ sig (Elt F) Λ₀ .tc) α} :
    slotPt c c fullShare f ⊢ iprop((slotPt c c fullShare (gath A c) -∗ WP (k ⟨⟩) Q)
      -∗ WP (.op (.store (Memref.whole cc0_scratch1) (Rect.unit (s := S32x32x768) off S1x32x768.size inb)
        (Gen.k0_pay33 ((Memref.whole cc0_scratch0).view.readAt (Elt F) (rowsR c).toLoadRect (A c))) Finset.univ hx hm) k) Q) := by
  subst e
  rw [slotPt_eq, slotPt_eq]
  iintro H HK
  iapply (wp_store (m := Memref.whole cc0_scratch1) (r := slotR c) (S := slotSet c) 𝒱₀ (c : Thread nD τ) none Set.univ
    (by rw [View.setOn_univ, View.set_slice_whole]; exact slot_subset c)) $$ H
  iintro H
  iapply HK
  iapply (Entails.of_eq (pointsTo_congr (ℓ := (c : Thread nD τ).loc cc0_scratch1) (I := slotSet c)
    fun i hi => own_stored c A f hi)) $$ H

theorem gather_read (f : cc0_scratch1.ty.Contents (Elt F)) :
    (Memref.whole cc0_scratch1).view.readAt (Elt F)
      (Rect.unit (s := S32x32x768) ![0, 0, 0] S32x32x768.size Gen.inb_S32x32x768_S32x32x768_0_0_0).toLoadRect f = f :=
  Memref.readAt_unit_zero (Elt F) cc0_scratch1 (by funext a; fin_cases a <;> rfl) _ f

theorem gather_load {hl}
    {α : Type} {Q : α → sProp 𝕄} {k : _ → Prog (TpuEff nD τ sig (Elt F) Λ₀ .tc) α} :
    pt c cc0_scratch1 (gath A c) ⊢ iprop((pt c cc0_scratch1 (gath A c) -∗ WP (k (gath A c)) Q)
      -∗ WP (.op (.load (Memref.whole cc0_scratch1) (Rect.unit (s := S32x32x768) ![0, 0, 0] S32x32x768.size Gen.inb_S32x32x768_S32x32x768_0_0_0).toLoadRect hl) k) Q) := by
  iintro H HK
  iapply (wp_load (m := Memref.whole cc0_scratch1) (S := Finset.univ) 𝒱₀ (c : Thread nD τ) none Set.univ (Finset.subset_univ _)) $$ H
  iintro H
  rw [gather_read]
  iapply HK $$ H

theorem res_load (f : cc0_scratch2.ty.Contents (Elt F)) {off : Fin 2 → ℕ} (e : off = ![32 * c.val, 0])
    {inb : ∀ a, off a + S32x768.size a ≤ S1024x768.size a} {hl}
    {α : Type} {Q : α → sProp 𝕄} {k : _ → Prog (TpuEff nD τ sig (Elt F) Λ₀ .tc) α} :
    resPt c c fullShare f ⊢ iprop((∀ w, resPt c c fullShare f -∗ WP (k w) Q)
      -∗ WP (.op (.load (Memref.whole cc0_scratch2) (Rect.unit (s := S1024x768) off S32x768.size inb).toLoadRect hl) k) Q) := by
  subst e
  rw [resPt_eq]
  iintro H HK
  iapply (wp_load (m := Memref.whole cc0_scratch2) (S := rowSet c) 𝒱₀ (c : Thread nD τ) none Set.univ
    (by rw [setOn_whole]; exact rows_subset c)) $$ H
  iintro H
  iapply HK $$ H

theorem res_store (f : cc0_scratch2.ty.Contents (Elt F)) {off : Fin 2 → ℕ} (e : off = ![32 * c.val, 0])
    {inb : ∀ a, off a + S32x768.size a ≤ S1024x768.size a} {hx hm}
    {α : Type} {Q : α → sProp 𝕄} {k : _ → Prog (TpuEff nD τ sig (Elt F) Λ₀ .tc) α} :
    resPt c c fullShare f ⊢ iprop((resPt c c fullShare (total A) -∗ WP (k ⟨⟩) Q)
      -∗ WP (.op (.store (Memref.whole cc0_scratch2) (Rect.unit (s := S1024x768) off S32x768.size inb)
        (Gen.k0_pay34 (gath A c)) Finset.univ hx hm) k) Q) := by
  subst e
  rw [resPt_eq, resPt_eq]
  iintro H HK
  iapply (wp_store (m := Memref.whole cc0_scratch2) (r := rowsR c) (S := rowSet c) 𝒱₀ (c : Thread nD τ) none Set.univ
    (by rw [View.setOn_univ, View.set_slice_whole]; exact rows_subset c)) $$ H
  iintro H
  iapply HK
  iapply (Entails.of_eq (pointsTo_congr (ℓ := (c : Thread nD τ).loc cc0_scratch2) (I := rowSet c)
    fun i hi => total_stored c A f hi)) $$ H

/-! ## The parts -/

theorem run1 {h0 h1 h2 h3 h4 arg5 h5} (O : CellTallies nD τ sig Unit) {β : Type}
    {kk : _ → Prog (TpuEff nD τ sig (Elt F) Λ₀ .tc) β} {Q : β → sProp 𝕄} :
    iprop(hand A K ∗ ins c g ∗ bigSep Finset.univ (fun t : Fin 31 => sigIn (F := F) c (turn c t))
        ∗ due c (∑ t : Fin 31, tallyAt (barCell (turn c t)) () 1 + O))
      ⊢ iprop((∀ v2, (ins c g ∗ due c O) -∗ WP (kk ⟨c, v2, SemArray.scalar (sig.barrier 0 rfl), Gen.k0_pay3, Gen.k0_pay4 (g.xAt 0) g.wqAll, Gen.k0_pay5 (F := F),
            Gen.k0_pay6 (g.vAt 0 0), Gen.k0_pay7 (g.xAt 0) g.wqAll (g.kAt 0 0)⟩) Q)
      -∗ WP (k0_part1 (Memref.whole cc0_stg0_0) h0 (Memref.whole cc0_stg1_0) h1 (Memref.whole cc0_stg2_0) h2 (Memref.whole cc0_stg3_0) h3 (Memref.whole cc0_stg4_0) h4 arg5 h5 (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 >>= kk) Q) := by
  rw [Gen.k0_part1_eq_skeleton]
  unfold Gen.k0_part1_skel
  simp only [Prog.lift, Prog.bind_op, Prog.bind_ret, Prog.bind_assoc, pure_bind]
  rw [wp_deviceId]
  iintro ⟨#Hh, H, Hs, HO⟩ HK
  iapply (signals A K c (Memref.whole cc0_stg0_0) h0 (Memref.whole cc0_stg1_0) h1 (Memref.whole cc0_stg2_0) h2 (Memref.whole cc0_stg3_0) h3 (Memref.whole cc0_stg4_0) h4 arg5 h5 O) $$ [Hs HO]
  · isplitr; · iexact Hh
    isplitl [Hs]; · iexact Hs
    iexact HO
  iintro HO
  iapply (ldX c g 0 rfl) $$ H; iintro H
  iapply (ldWq c g rfl) $$ H; iintro H
  iapply (ldK c g 0 0 rfl) $$ H; iintro H
  iapply (ldV c g 0 0 rfl) $$ H; iintro H
  iapply HK
  isplitl [H]; · iexact H
  iexact HO

theorem run6 {h0 h1 h2 h3 h4 arg5 h5} {v2 v16 v172 v173} (O : CellTallies nD τ sig Unit) (hA : A c = prod g)
    (hv : Gen.k0_pay19 v16 v172 v173 (g.kAt 0 7) (g.vAt 0 7) (g.woAt 7) = g.lo)
    (hO : ∀ x u, 0 < (∑ t : Fin 16, otherV c (fun p => tallyAt (cell 1 p c) () N) (loD t) + O) x u → x.1.2 = .tc ∧ 1 < lvOf x.2) {β : Type}
    {kk : _ → Prog (TpuEff nD τ sig (Elt F) Λ₀ .tc) β} {Q : β → sProp 𝕄} :
    iprop(hand A K ∗ ins c g ∗ (∃ f, halfPt c 0 f) ∗ cred (tallyAt (barCell c) () 31) ∗ atPos ER (barCell c) 0 ∅ 0
        ∗ bigSep (Finset.univ.erase c) (aKit (F := F) c) ∗ bigSep (Finset.univ.erase c) (bKit (F := F) c)
        ∗ due c (∑ t : Fin 16, otherV c (fun p => tallyAt (cell 1 p c) () N) (loD t) + O))
      ⊢ iprop(((ins c g ∗ atPos ER (barCell c) 1 ∅ 0 ∗ bigSep Finset.univ (fun t : Fin 16 => own c (fun p => accPt c p fullShare (A c)) (loD t))
            ∗ bigSep Finset.univ (fun t : Fin 16 => other c (aRest (F := F) c) (hiD t)) ∗ bigSep (Finset.univ.erase c) (bRest (F := F) c)
            ∗ bigSep Finset.univ (fun t : Fin 16 => other c (fun p => cred (tallyAt (cell 0 c p) () N)) (loD t)) ∗ due c O)
          -∗ WP (kk g.p1) Q)
      -∗ WP (k0_part6 (Memref.whole cc0_stg0_0) h0 (Memref.whole cc0_stg1_0) h1 (Memref.whole cc0_stg2_0) h2 (Memref.whole cc0_stg3_0) h3 (Memref.whole cc0_stg4_0) h4 arg5 h5 (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v16 v172 v173 >>= kk) Q) := by
  rw [Gen.k0_part6_eq_skeleton]
  unfold Gen.k0_part6_skel
  simp only [Prog.lift, Prog.bind_op, Prog.bind_ret, Prog.bind_assoc, pure_bind, semWaitWord]
  iintro ⟨#Hh, H, ⟨%f, Ha⟩, Hc, Hp, Hak, Hbk, HO⟩ HK
  iapply (ldK c g 0 7 rfl) $$ H; iintro H
  iapply (ldV c g 0 7 rfl) $$ H; iintro H
  iapply (ldO c g 7 rfl) $$ H; iintro H
  iapply (half_load c 0 f rfl) $$ Ha; iintro %w Ha
  rw [hv]
  iapply (half_store c 0 f (A c) g.lo rfl (fun i hi => (congrFun hA i).trans (prod_lo g hi))) $$ Ha; iintro Ha
  unfold due
  icases HO with ⟨%W, HO⟩
  unfold hand
  icases Hh with ⟨#HI, #Hl⟩
  iapply (barrier_move A K c _ hO (W := W)) $$ [Hc HO Hp]
  · isplitr; · iexact HI
    isplitl [Hc]; · iexact Hc
    isplitl [HO]; · iexact HO
    isplitr; · iexact Hl
    iexact Hp
  iintro ⟨HO, Hp, Hb⟩
  ihave HR := (rest_ready (F := F) c) $$ [Hb Hak Hbk]
  · isplitl [Hb]; · iexact Hb
    isplitl [Hak]; · iexact Hak
    iexact Hbk
  icases HR with ⟨Har, Hbr⟩
  ihave Har := (Entails.of_eq (other_halves c (aRest (F := F) c))) $$ Har
  icases Har with ⟨Hal, Hah⟩
  ihave HR := (half_ready A c 0) $$ [Ha Hal]
  · isplitl [Ha]; · iexact Ha
    iexact Hal
  icases HR with ⟨Hs, Hown⟩
  iapply (sendsLo A K c (Memref.whole cc0_stg0_0) h0 (Memref.whole cc0_stg1_0) h1 (Memref.whole cc0_stg2_0) h2 (Memref.whole cc0_stg3_0) h3 (Memref.whole cc0_stg4_0) h4 arg5 h5 c v2 (SemArray.scalar (sig.barrier 0 rfl)) v16 v172 v173 O rfl) $$ [Hs HO]
  · isplitr
    · unfold hand; isplitr; · iexact HI
      iexact Hl
    isplitl [Hs]; · iexact Hs
    unfold due; iexists _; iexact HO
  iintro ⟨Hc, HO⟩
  iapply (ldX c g 1 rfl) $$ H; iintro H
  iapply (ldWq c g rfl) $$ H; iintro H
  iapply HK
  isplitl [H]; · iexact H
  isplitl [Hp]; · iexact Hp
  isplitl [Hown]; · iexact Hown
  isplitl [Hah]; · iexact Hah
  isplitl [Hbr]; · iexact Hbr
  isplitl [Hc]; · iexact Hc
  unfold due
  iexact HO

theorem run11 {h0 h1 h2 h3 h4 arg5 h5} {v16 v206 v333 v338 v341} (f : cc0_scratch0.ty.Contents (Elt F)) {β : Type}
    {kk : _ → Prog (TpuEff nD τ sig (Elt F) Λ₀ .tc) β} {Q : β → sProp 𝕄} :
    iprop(ins c g ∗ halfPt c 1 f) ⊢ iprop(((ins c g ∗ halfPt c 1 f)
          -∗ WP (kk (Gen.k0_pay32 v16 v206 v333 v338 v341 (g.woAt 6) (g.kAt 1 7) (g.vAt 1 7) (g.woAt 7))) Q)
      -∗ WP (k0_part11 (Memref.whole cc0_stg0_0) h0 (Memref.whole cc0_stg1_0) h1 (Memref.whole cc0_stg2_0) h2 (Memref.whole cc0_stg3_0) h3 (Memref.whole cc0_stg4_0) h4 arg5 h5 (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v16 v206 v333 v338 v341 >>= kk) Q) := by
  rw [Gen.k0_part11_eq_skeleton]
  unfold Gen.k0_part11_skel
  simp only [Prog.lift, Prog.bind_op, Prog.bind_ret]
  iintro ⟨H, Ha⟩ HK
  iapply (ldO c g 6 rfl) $$ H; iintro H
  iapply (ldK c g 1 7 rfl) $$ H; iintro H
  iapply (ldV c g 1 7 rfl) $$ H; iintro H
  iapply (ldO c g 7 rfl) $$ H; iintro H
  iapply (half_load c 1 f rfl) $$ Ha; iintro %w Ha
  iapply HK
  isplitl [H]; · iexact H
  iexact Ha

end Cert.KernelIdeal
-- ==== Proof.Exchange.lean ====
/-
The exchange of the body, and with it the whole body at one device.
-/
module

public import proofs.«01_k».proof.Proof.Parts

@[expose] public section

noncomputable section

namespace Cert.KernelIdeal

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → cc0_scratch0.ty.Contents (Elt F)) (K : GSem nD τ sig → ℕ) (c : Dev nD) (g : Given F)

local notation "WP" => wp frame (wpE (defs₀ (F := F)) 𝒱₀ (c : Thread nD τ) none) Set.univ

/-- A device's place at each of its cells of an array, before (`R = 0`) and after. -/
def places (k : Fin 4) (R : ℕ) : sProp 𝕄 := bigSep (Finset.univ.erase c) (fun p => atPos ER (cell k c p) R ∅ 0)
/-- The credit to wait for each of the others' transfers. -/
def credits (k : Fin 4) : sProp 𝕄 := bigSep (Finset.univ.erase c) (fun p => cred (tallyAt (cell k c p) () N))

theorem waits_ready (k : Fin 4) :
    iprop(credits (F := F) c k ∗ places (F := F) c k 0) ⊢ bigSep Finset.univ (fun t : Fin 31 => waitIn (F := F) c k (turn c t)) := by
  rw [← sep_turn c (waitIn (F := F) c k)]
  exact zip _ _ _

theorem owed3_level (x : GSem nD τ sig) (u : Unit) (h : 0 < owedAt 3 c (Finset.univ.erase c) x u) : x.1.2 = .tc ∧ famLv 1 < lvOf x.2 := by
  obtain ⟨h1, h2⟩ := owedAt_pos 3 c _ x u h
  exact ⟨h1, by rw [h2]; decide⟩

theorem run12 {h0 h1 h2 h3 h4 arg5 h5} {v2} {f : cc0_scratch0.ty.Contents (Elt F)} {f1 : cc0_scratch1.ty.Contents (Elt F)} {f2 : cc0_scratch2.ty.Contents (Elt F)}
    (hA : A c = prod g) {β : Type}
    {kk : _ → Prog (TpuEff nD τ sig (Elt F) Λ₀ .tc) β} {Q : β → sProp 𝕄} :
    iprop(hand A K ∗ halfPt c 1 f ∗ bigSep Finset.univ (fun t : Fin 16 => own c (fun p => accPt c p fullShare (A c)) (loD t))
        ∗ bigSep Finset.univ (fun t : Fin 16 => other c (aRest (F := F) c) (hiD t)) ∗ bigSep (Finset.univ.erase c) (bRest (F := F) c)
        ∗ slotPt c c fullShare f1 ∗ resPt c c fullShare f2
        ∗ bigSep Finset.univ (fun t : Fin 16 => other c (fun p => cred (tallyAt (cell 0 c p) () N)) (loD t))
        ∗ (credits (F := F) c 1 ∗ credits (F := F) c 3) ∗ (places (F := F) c 0 0 ∗ places (F := F) c 1 0 ∗ places (F := F) c 2 0 ∗ places (F := F) c 3 0)
        ∗ due c (∑ t : Fin 16, otherV c (fun p => tallyAt (cell 1 p c) () N) (hiD t) + owedAt 3 c (Finset.univ.erase c)))
      ⊢ iprop(((pt c cc0_scratch0 (A c) ∗ pt c cc0_scratch1 (gath A c) ∗ pt c cc0_scratch2 (total A)
            ∗ (places (F := F) c 0 1 ∗ places (F := F) c 1 1 ∗ places (F := F) c 2 1 ∗ places (F := F) c 3 1) ∗ due c 0)
          -∗ WP (kk ⟨⟩) Q)
      -∗ WP (k0_part12 (Memref.whole cc0_stg0_0) h0 (Memref.whole cc0_stg1_0) h1 (Memref.whole cc0_stg2_0) h2 (Memref.whole cc0_stg3_0) h3 (Memref.whole cc0_stg4_0) h4 arg5 h5 (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 g.hi >>= kk) Q) := by
  rw [Gen.k0_part12_eq_skeleton]
  unfold Gen.k0_part12_skel
  simp only [Prog.lift, Prog.bind_op, Prog.bind_ret, Prog.bind_assoc, pure_bind]
  iintro ⟨#Hh, Ha, Hol, Har, Hbr, Hs, Hr, Hc0, ⟨Hc1, Hc3⟩, ⟨P0, P1, P2, P3⟩, HO⟩ HK
  iapply (half_store c 1 f (A c) g.hi rfl (fun i hi => (congrFun hA i).trans (prod_hi g hi))) $$ Ha; iintro Ha
  ihave HR := (half_ready A c 1) $$ [Ha Har]
  · isplitl [Ha]; · iexact Ha
    iexact Har
  icases HR with ⟨Hsend, Hoh⟩
  iapply (sendsHi A K c (Memref.whole cc0_stg0_0) h0 (Memref.whole cc0_stg1_0) h1 (Memref.whole cc0_stg2_0) h2 (Memref.whole cc0_stg3_0) h3 (Memref.whole cc0_stg4_0) h4 arg5 h5 c v2 g.hi (owedAt 3 c (Finset.univ.erase c)) rfl) $$ [Hsend HO]
  · isplitr; · iexact Hh
    isplitl [Hsend]; · iexact Hsend
    iexact HO
  iintro ⟨Hc0', HO⟩
  ihave Hc0 := (Entails.of_eq (other_halves c (fun p => (cred (tallyAt (cell 0 c p) () N) : sProp 𝕄))).symm) $$ [Hc0 Hc0']
  · isplitl [Hc0]; · iexact Hc0
    iexact Hc0'
  ihave Ho := (own_halves c (fun p => accPt c p fullShare (A c))) $$ [Hol Hoh]
  · isplitl [Hol]; · iexact Hol
    iexact Hoh
  iapply (acc_load c (A c) (off9_eq c)) $$ Ho; iintro Ho
  iapply (slot_load c f1 (off10_eq c)) $$ Hs; iintro %w Hs
  iapply (slot_store A c f1 (off10_eq c)) $$ Hs; iintro Hs
  ihave Hw := (waits_ready (F := F) c 1) $$ [Hc1 P1]
  · isplitl [Hc1]; · iexact Hc1
    iexact P1
  iapply (gathers A K c (Memref.whole cc0_stg0_0) h0 (Memref.whole cc0_stg1_0) h1 (Memref.whole cc0_stg2_0) h2 (Memref.whole cc0_stg3_0) h3 (Memref.whole cc0_stg4_0) h4 arg5 h5 v2 g.hi (owedAt 3 c (Finset.univ.erase c)) (owed3_level c)) $$ [Hw HO]
  · isplitr; · iexact Hh
    isplitl [Hw]; · iexact Hw
    iexact HO
  iintro ⟨Hw, HO⟩
  ihave HG := (gather_done A c) $$ [Hs Hw]
  · isplitl [Hs]; · iexact Hs
    iexact Hw
  icases HG with ⟨HG, P1⟩
  iapply (gather_load A c) $$ HG; iintro HG
  iapply (res_load c f2 (off9_eq c)) $$ Hr; iintro %w' Hr
  iapply (res_store A c f2 (off9_eq c)) $$ Hr; iintro Hr
  ihave HR := (spread_ready A c) $$ [Hr Hbr]
  · isplitl [Hr]; · iexact Hr
    iexact Hbr
  icases HR with ⟨Hsend, Hr⟩
  rw [show owedAt 3 c (Finset.univ.erase c) = ∑ t : Fin 31, tallyAt (cell 3 (turn c t) c) () N + 0 from
    (owedAt_turn 3 c).trans (add_zero _).symm]
  iapply (spreads A K c (Memref.whole cc0_stg0_0) h0 (Memref.whole cc0_stg1_0) h1 (Memref.whole cc0_stg2_0) h2 (Memref.whole cc0_stg3_0) h3 (Memref.whole cc0_stg4_0) h4 arg5 h5 v2 g.hi 0) $$ [Hsend HO]
  · isplitr; · iexact Hh
    isplitl [Hsend]; · iexact Hsend
    iexact HO
  iintro ⟨Hc2, HO⟩
  ihave Hw := (waits_ready (F := F) c 3) $$ [Hc3 P3]
  · isplitl [Hc3]; · iexact Hc3
    iexact P3
  iapply (collects A K c (Memref.whole cc0_stg0_0) h0 (Memref.whole cc0_stg1_0) h1 (Memref.whole cc0_stg2_0) h2 (Memref.whole cc0_stg3_0) h3 (Memref.whole cc0_stg4_0) h4 arg5 h5 v2 g.hi) $$ [Hw HO]
  · isplitr; · iexact Hh
    isplitl [Hw]; · iexact Hw
    iexact HO
  iintro ⟨Hw3, HO⟩
  ihave Hw0 := (waits_ready (F := F) c 0) $$ [Hc0 P0]
  · isplitl [Hc0]; · unfold credits; iexact Hc0
    iexact P0
  ihave Hc2 := (Entails.of_eq (sep_turn c (fun p => (cred (tallyAt (cell 2 c p) () N) : sProp 𝕄))).symm) $$ Hc2
  ihave Hw2 := (waits_ready (F := F) c 2) $$ [Hc2 P2]
  · isplitl [Hc2]; · unfold credits; iexact Hc2
    iexact P2
  ihave Hw := (zip Finset.univ (fun t : Fin 31 => waitIn (F := F) c 0 (turn c t)) (fun t : Fin 31 => waitIn (F := F) c 2 (turn c t))) $$ [Hw0 Hw2]
  · isplitl [Hw0]; · iexact Hw0
    iexact Hw2
  iapply (drains A K c (Memref.whole cc0_stg0_0) h0 (Memref.whole cc0_stg1_0) h1 (Memref.whole cc0_stg2_0) h2 (Memref.whole cc0_stg3_0) h3 (Memref.whole cc0_stg4_0) h4 arg5 h5 v2 g.hi) $$ [Hw HO]
  · isplitr; · iexact Hh
    isplitl [Hw]; · iexact Hw
    iexact HO
  iintro ⟨Hw, HO⟩
  ihave HB := (all_back A c) $$ [Ho Hr Hw3 Hw]
  · isplitl [Ho]; · iexact Ho
    isplitl [Hr]; · iexact Hr
    isplitl [Hw3]; · iexact Hw3
    iexact Hw
  icases HB with ⟨Ha, Hr, P0, P2, P3⟩
  iapply HK
  isplitl [Ha]; · iexact Ha
  isplitl [HG]; · iexact HG
  isplitl [Hr]; · iexact Hr
  unfold places
  isplitr [HO]
  · isplitl [P0]; · iexact P0
    isplitl [P1]; · iexact P1
    isplitl [P2]; · iexact P2
    iexact P3
  iexact HO

end Cert.KernelIdeal
-- ==== Proof.Body.lean ====
/-
The whole body at one device.
-/
module

public import proofs.«01_k».proof.Proof.Exchange

@[expose] public section

noncomputable section

namespace Cert.KernelIdeal

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → cc0_scratch0.ty.Contents (Elt F)) (K : GSem nD τ sig → ℕ) (c : Dev nD) (g : Given F)

local notation "WP" => wp frame (wpE (defs₀ (F := F)) 𝒱₀ (c : Thread nD τ) none) Set.univ

/-! ## The result -/

/-- The result a device writes, of the reduced rows it has collected. -/
def outV (R : cc0_scratch2.ty.Contents (Elt F)) : cc0_stg5_0.ty.Contents (Elt F) := fun i =>
  Gen.k0_pay1 (fun x => R (halfIx (i 0) x)) (ix3 (0 : Fin 1) (i 1) (i 2))

abbrev outR (b : Fin 2) : Rect S2x512x768 := Rect.unit (s := S2x512x768) ![b.val, 0, 0] S1x512x768.size (inbX b)

theorem emb_outR (b : Fin 2) (y : S1x512x768.Idx) : (outR b).emb y = ix3 b (y 1) (y 2) := by
  have hy : (y 0).val < 1 := (y 0).isLt
  funext a
  apply Fin.ext
  match a with
  | ⟨0, _⟩ => show b.val + 1 * (y 0).val = b.val; omega
  | ⟨1, _⟩ => show 0 + 1 * (y 1).val = (y 1).val; omega
  | ⟨2, _⟩ => show 0 + 1 * (y 2).val = (y 2).val; omega

/-- Two stores, one of each batch, leave it. -/
theorem out_stored (R : cc0_scratch2.ty.Contents (Elt F)) (f : cc0_stg5_0.ty.Contents (Elt F)) :
    ((Memref.whole cc0_stg5_0).access (outR 1)).write (Elt F)
        (((Memref.whole cc0_stg5_0).access (outR 0)).write (Elt F) f (Gen.k0_pay1 fun x => R (halfIx 0 x)) Finset.univ)
        (Gen.k0_pay2 fun x => R (halfIx 1 x)) Finset.univ = outV R := by
  funext i
  have hi : ix3 (i 0) (i 1) (i 2) = i := (eq_ix3 i).symm
  have e : ∀ b : Fin 2, i 0 = b → ((Memref.whole cc0_stg5_0).access (outR b)).emb (ix3 (0 : Fin 1) (i 1) (i 2)) = i := by
    intro b hb
    subst hb
    exact (emb_outR _ _).trans hi
  by_cases h : i 0 = (1 : Fin 2)
  · refine (write_at ((Memref.whole cc0_stg5_0).access (outR 1)) _ _ (e 1 h)).trans ?_
    unfold outV
    rw [h]
    rfl
  · have h0 : i 0 = (0 : Fin 2) := by
      have := (i 0).isLt
      apply Fin.ext
      have h' : (i 0).val ≠ 1 := fun e => h (Fin.ext e)
      have h'' : (i 0).val < 2 := (i 0).isLt
      show (i 0).val = 0
      omega
    rw [View.write_of_not_mem]
    · refine (write_at ((Memref.whole cc0_stg5_0).access (outR 0)) _ _ (e 0 h0)).trans ?_
      unfold outV
      rw [h0]
      rfl
    · intro hm
      rw [View.setOn_univ, View.set, Finset.mem_map] at hm
      obtain ⟨y, -, hy⟩ := hm
      have := congrFun ((emb_outR 1 y).symm.trans hy) 0
      exact h this.symm

theorem res_read (b : Fin 2) (R : cc0_scratch2.ty.Contents (Elt F)) :
    (Memref.whole cc0_scratch2).view.readAt (Elt F) (halfR b).toLoadRect R = fun x => R (halfIx b x) :=
  funext fun x => congrArg R (emb_halfR b x)

theorem half_read (b : Fin 2) (R : cc0_scratch2.ty.Contents (Elt F)) {off : Fin 2 → ℕ} (e : off = ![512 * b.val, 0])
    {inb : ∀ a, off a + S512x768.size a ≤ S1024x768.size a} {hl}
    {α : Type} {Q : α → sProp 𝕄} {k : _ → Prog (TpuEff nD τ sig (Elt F) Λ₀ .tc) α} :
    pt c cc0_scratch2 R ⊢ iprop((pt c cc0_scratch2 R -∗ WP (k (fun x => R (halfIx b x))) Q)
      -∗ WP (.op (.load (Memref.whole cc0_scratch2) (Rect.unit (s := S1024x768) off S512x768.size inb).toLoadRect hl) k) Q) := by
  subst e
  iintro H HK
  iapply (wp_load (m := Memref.whole cc0_scratch2) (S := Finset.univ) 𝒱₀ (c : Thread nD τ) none Set.univ (Finset.subset_univ _)) $$ H
  iintro H
  rw [res_read b R]
  iapply HK $$ H

theorem out_load (f : cc0_stg5_0.ty.Contents (Elt F)) {r : LoadRect S2x512x768} {hl}
    {α : Type} {Q : α → sProp 𝕄} {k : _ → Prog (TpuEff nD τ sig (Elt F) Λ₀ .tc) α} :
    pt c cc0_stg5_0 f ⊢ iprop((∀ w, pt c cc0_stg5_0 f -∗ WP (k w) Q) -∗ WP (.op (.load (Memref.whole cc0_stg5_0) r hl) k) Q) := by
  iintro H HK
  iapply (wp_load (m := Memref.whole cc0_stg5_0) (S := Finset.univ) 𝒱₀ (c : Thread nD τ) none Set.univ (Finset.subset_univ _)) $$ H
  iintro H
  iapply HK $$ H

theorem out_store (f : cc0_stg5_0.ty.Contents (Elt F)) (r : Rect S2x512x768) (w : r.shape.Idx → Elt F .f32) {hx hm}
    {α : Type} {Q : α → sProp 𝕄} {k : _ → Prog (TpuEff nD τ sig (Elt F) Λ₀ .tc) α} :
    pt c cc0_stg5_0 f ⊢ iprop((pt c cc0_stg5_0 (((Memref.whole cc0_stg5_0).access r).write (Elt F) f w Finset.univ) -∗ WP (k ⟨⟩) Q)
      -∗ WP (.op (.store (Memref.whole cc0_stg5_0) r w Finset.univ hx hm) k) Q) :=
  wp_store (m := Memref.whole cc0_stg5_0) (r := r) (S := Finset.univ) 𝒱₀ (c : Thread nD τ) none Set.univ (Finset.subset_univ _)

/-! ## The body -/

theorem owed_all : O₀ c = ∑ t : Fin 31, tallyAt (barCell (turn c t)) () 1
    + (∑ t : Fin 16, otherV c (fun p => tallyAt (cell 1 p c) () N) (loD t)
      + (∑ t : Fin 16, otherV c (fun p => tallyAt (cell 1 p c) () N) (hiD t) + owedAt 3 c (Finset.univ.erase c))) := by
  unfold O₀
  rw [owedBar_turn, owedAt_halves 1, add_assoc]

theorem owed13_level (x : GSem nD τ sig) (u : Unit)
    (h : 0 < (∑ t : Fin 16, otherV c (fun p => tallyAt (cell 1 p c) () N) (loD t)
      + (∑ t : Fin 16, otherV c (fun p => tallyAt (cell 1 p c) () N) (hiD t) + owedAt 3 c (Finset.univ.erase c)) : CellTallies nD τ sig Unit) x u) :
    x.1.2 = .tc ∧ 1 < lvOf x.2 := by
  rw [← add_assoc, ← owedAt_halves 1] at h
  rcases add_pos_or _ _ x u h with h | h
  · obtain ⟨h1, h2⟩ := owedAt_pos 1 c _ x u h
    exact ⟨h1, by rw [h2]; decide⟩
  · obtain ⟨h1, h2⟩ := owedAt_pos 3 c _ x u h
    exact ⟨h1, by rw [h2]; decide⟩

theorem ended {α : Type} {Q : α → sProp 𝕄} {a : α} : Q a ⊢ WP (Prog.ret a) Q := by
  rw [wp_ret]
  iintro H
  imodintro
  iexact H

/-- What a device has when its body starts, besides its buffers, -/
def ready : sProp 𝕄 :=
  iprop(hand A K ∗ bigSep (Finset.univ.erase c) (sigKit (F := F) c) ∗ bigSep (Finset.univ.erase c) (aKit (F := F) c)
    ∗ bigSep (Finset.univ.erase c) (bKit (F := F) c) ∗ cred (tallyAt (barCell c) () 31) ∗ atPos ER (barCell c) 0 ∅ 0
    ∗ (credits (F := F) c 1 ∗ credits (F := F) c 3) ∗ (places (F := F) c 0 0 ∗ places (F := F) c 1 0 ∗ places (F := F) c 2 0 ∗ places (F := F) c 3 0))
/-- and when it has ended. -/
def spent : sProp 𝕄 :=
  iprop(hand A K ∗ atPos ER (barCell c) 1 ∅ 0 ∗ (places (F := F) c 0 1 ∗ places (F := F) c 1 1 ∗ places (F := F) c 2 1 ∗ places (F := F) c 3 1))

theorem body_run {h0 h1 h2 h3 h4 h5} (hA : A c = prod g) (f0 : cc0_scratch0.ty.Contents (Elt F)) (f1 : cc0_scratch1.ty.Contents (Elt F))
    (f2 : cc0_scratch2.ty.Contents (Elt F)) (f5 : cc0_stg5_0.ty.Contents (Elt F)) :
    iprop(ready A K c ∗ ins c g ∗ pt c cc0_scratch0 f0 ∗ pt c cc0_scratch1 f1 ∗ pt c cc0_scratch2 f2 ∗ pt c cc0_stg5_0 f5 ∗ due c (O₀ c))
      ⊢ WP (cc0__body (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6)
        (fun _ => iprop(spent A K c ∗ ins c g ∗ pt c cc0_scratch0 (A c) ∗ pt c cc0_scratch1 (gath A c) ∗ pt c cc0_scratch2 (total A)
          ∗ pt c cc0_stg5_0 (outV (total A)) ∗ due c 0)) := by
  rw [Gen.cc0__body_eq_skeleton]
  unfold Gen.cc0__body_skel ready
  simp only [Prog.lift, Prog.bind_op, Prog.bind_ret, pure_bind]
  iintro ⟨⟨#Hh, Hsk, Hak, Hbk, Hcb, Hpb, Hcr, Hpl⟩, H, Ha, Hg, Hr, H5, HO⟩
  rw [owed_all c]
  ihave HS := (sig_ready c f1 f2) $$ [Hg Hr Hsk]
  · isplitl [Hg]; · iexact Hg
    isplitl [Hr]; · iexact Hr
    iexact Hsk
  icases HS with ⟨Hs, Hg, Hr⟩
  iapply (run1 A K c g _) $$ [H Hs HO]
  · isplitr; · iexact Hh
    isplitl [H]; · iexact H
    isplitl [Hs]; · iexact Hs
    iexact HO
  iintro %v2 ⟨H, HO⟩
  iapply (run2 c g) $$ H; iintro H
  iapply (run3 c g) $$ H; iintro H
  iapply (run4 c g) $$ H; iintro H
  iapply (run5 c g) $$ H; iintro H
  ihave Ha := (acc_halves c f0) $$ Ha
  icases Ha with ⟨Hal, Hah⟩
  iapply (run6 A K c g _ hA rfl (owed13_level c)) $$ [H Hal Hcb Hpb Hak Hbk HO]
  · isplitr; · iexact Hh
    isplitl [H]; · iexact H
    isplitl [Hal]; · iexists f0; iexact Hal
    isplitl [Hcb]; · iexact Hcb
    isplitl [Hpb]; · iexact Hpb
    isplitl [Hak]; · iexact Hak
    isplitl [Hbk]; · iexact Hbk
    iexact HO
  iintro ⟨H, Hpb, Hol, Har, Hbr, Hc0, HO⟩
  iapply (run7 c g) $$ H; iintro H
  iapply (run8 c g) $$ H; iintro H
  iapply (run9 c g) $$ H; iintro H
  iapply (run10 c g) $$ H; iintro H
  iapply (run11 c g f0) $$ [H Hah]
  · isplitl [H]; · iexact H
    iexact Hah
  iintro ⟨H, Hah⟩
  iapply (run12 A K c g hA) $$ [Hah Hol Har Hbr Hg Hr Hc0 Hcr Hpl HO]
  · isplitr; · iexact Hh
    isplitl [Hah]; · iexact Hah
    isplitl [Hol]; · iexact Hol
    isplitl [Har]; · iexact Har
    isplitl [Hbr]; · iexact Hbr
    isplitl [Hg]; · iexact Hg
    isplitl [Hr]; · iexact Hr
    isplitl [Hc0]; · iexact Hc0
    isplitl [Hcr]; · iexact Hcr
    isplitl [Hpl]; · iexact Hpl
    iexact HO
  iintro ⟨Ha, Hg, Hr, Hpl, HO⟩
  iapply (half_read c 0 (total A) rfl) $$ Hr; iintro Hr
  iapply (out_load c f5) $$ H5; iintro %w5 H5
  iapply (out_store c f5 (outR 0)) $$ H5; iintro H5
  iapply (half_read c 1 (total A) rfl) $$ Hr; iintro Hr
  iapply (out_load c _) $$ H5; iintro %w5' H5
  iapply (out_store c _ (outR 1)) $$ H5; iintro H5
  iapply (ended c)
  unfold spent
  isplitl [Hpb Hpl]
  · isplitr; · iexact Hh
    isplitl [Hpb]; · iexact Hpb
    iexact Hpl
  isplitl [H]; · iexact H
  isplitl [Ha]; · iexact Ha
  isplitl [Hg]; · iexact Hg
  isplitl [Hr]; · iexact Hr
  isplitl [H5]
  · rw [← out_stored (total A) f5]; iexact H5
  iexact HO

end Cert.KernelIdeal
-- ==== Proof.Obligation.lean ====
/-
What the pipeline stages for the body, and the body's run as the pipeline asks for it.
-/
module

public import proofs.«01_k».proof.Proof.Body
public import proofs.«01_k».proof.Proof.Gen.KernelIdeal.Regions
public import proofs.«01_k».proof.Proof.Gen.KernelIdeal.Points
public import Idealize.ShloMosaic.Lib.Pipeline.ValueKit

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

local notation "WP" => wp frame (wpE (defs₀ (F := F)) 𝒱₀ (c : Thread nD τ) none) Set.univ

/-! ## What each device is given, and what it makes -/

/-- What device `c`'s body reads: its arguments, and its heads of the keys and of the values. -/
def given (c : Dev nD) : Given F where
  x := Gen.V1 m c main_arg0
  wq := Gen.V1 m c main_arg1
  k := Gen.V1 m c main_v9
  v := Gen.V1 m c main_v14
  wo := Gen.V1 m c main_arg4

/-- Every device's partial product. -/
def prods (c : Dev nD) : cc0_scratch0.ty.Contents (Elt F) := prod (given m c)

/-- The result, the same on every device. -/
def result : cc0_stg5_0.ty.Contents (Elt F) := outV (total (prods m))

/-! ## The kernel's own semaphores -/

def osem (x : Fin 4 × Dev nD) : SemLoc sig := .dma (dsem x.1 x.2)

theorem osem_inj : Function.Injective osem := fun x y h => by
  have h' : dsem x.1 x.2 = dsem y.1 y.2 := SemLoc.dma.inj h
  exact Prod.ext (by rw [← famOf_dsem x.1 x.2, h', famOf_dsem]) (by rw [← peerOf_dsem x.1 x.2, h', peerOf_dsem])

/-- Every one of the device's places, at a round. -/
def allPlaces (R : Dev nD → ℕ) : sProp 𝕄 :=
  bigSep (Finset.univ : Finset (Fin 4 × Dev nD)) (fun x => atPos ER (cell x.1 c x.2) (R x.2) ∅ 0)
/-- The places a device has for itself, which nothing uses. -/
def ownPlaces : sProp 𝕄 := bigSep (Finset.univ : Finset (Fin 4)) (fun k => atPos ER (cell k c c) 0 ∅ 0)

omit [FloatOps F] in
theorem fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The places by array, the device's own apart. -/
theorem places_apart (Φ : Fin 4 → Dev nD → sProp 𝕄) :
    bigSep (Finset.univ : Finset (Fin 4 × Dev nD)) (fun x => Φ x.1 x.2)
      = iprop(bigSep Finset.univ (fun k => Φ k c) ∗ bigSep Finset.univ (fun k => bigSep (Finset.univ.erase c) (Φ k))) := by
  rw [bigSep_univ_prod, bigSep_congr fun k _ => own_apart c (Φ k), bigSep_sep']

def roundOf (p : Dev nD) : ℕ := if p = c then 0 else 1

theorem all_places : iprop(ownPlaces (F := F) c ∗ (places (F := F) c 0 1 ∗ places (F := F) c 1 1 ∗ places (F := F) c 2 1 ∗ places (F := F) c 3 1))
    ⊢ allPlaces (F := F) c (roundOf c) := by
  unfold allPlaces
  rw [places_apart c (fun k p => atPos ER (cell k c p) (roundOf c p) ∅ 0)]
  have h0 : roundOf c c = 0 := if_pos rfl
  have h1 (k : Fin 4) : bigSep (Finset.univ.erase c) (fun p => (atPos ER (cell k c p) (roundOf c p) ∅ 0 : sProp 𝕄)) = places (F := F) c k 1 :=
    bigSep_congr fun p hp => by rw [show roundOf c p = 1 from if_neg (Finset.ne_of_mem_erase hp)]
  rw [bigSep_congr fun k _ => h1 k, fin4 (fun k => places (F := F) c k 1), h0]
  exact BI.Entails.refl _

variable (A : Dev nD → cc0_scratch0.ty.Contents (Elt F)) (K : GSem nD τ sig → ℕ)

/-- A cell whose rounds are over gives its counter back, at zero. -/
theorem closed (x : Fin 4 × Dev nD) :
    iprop(invs A K ∗ atPos ER (cell x.1 c x.2) (roundOf c x.2) ∅ 0) ⊢ (|={Set.univ}=> semVal (cell x.1 c x.2) 0 : sProp 𝕄) := by
  iintro ⟨#Hi, H⟩
  iapply (Rounds.cell_close ER (talk A) (g := cell x.1 c x.2) (κ := K (cell x.1 c x.2)) (R := roundOf c x.2) (Set.mem_univ _) id ?_) $$ [H]
  · intro r hr
    unfold roundOf at hr
    split at hr
    · next h => rw [h]; exact duties_own A x.1 c r
    · exact duties_later A _ r hr
  · isplitr; · iapply (invs_cell A K x.1 c x.2) $$ Hi
    iexact H

theorem all_closed : iprop(invs A K ∗ allPlaces (F := F) c (roundOf c)) ⊢ (|={Set.univ}=> Pipeline.ownSems0 osem c : sProp 𝕄) := by
  unfold allPlaces
  have h : iprop(invs A K ∗ bigSep (Finset.univ : Finset (Fin 4 × Dev nD)) (fun x => atPos ER (cell x.1 c x.2) (roundOf c x.2) ∅ 0))
      ⊢ bigSep (Finset.univ : Finset (Fin 4 × Dev nD)) (fun x => (iprop(|={Set.univ}=> semVal (cell x.1 c x.2) 0) : sProp 𝕄)) :=
    bigSep_with_persistent fun x _ => closed c A K x
  refine h.trans ?_
  exact BI.bigSep_fupd Finset.univ (fun x : Fin 4 × Dev nD => (semVal (cell x.1 c x.2) 0 : sProp 𝕄))

/-! ## The body, with its semaphores back at zero -/

/-- What device `c` has when its region is entered. -/
def entered : sProp 𝕄 := iprop((∃ K, ready (prods m) K c) ∗ ownPlaces (F := F) c)
def anyPt (b : Ref sig .tc) : sProp 𝕄 := iprop(∃ f, pt (F := F) c b f)

theorem body_closed {h0 h1 h2 h3 h4 h5} :
    iprop(entered m c ∗ ins c (given m c) ∗ (anyPt (F := F) c cc0_scratch0 ∗ anyPt (F := F) c cc0_scratch1 ∗ anyPt (F := F) c cc0_scratch2)
        ∗ anyPt (F := F) c cc0_stg5_0 ∗ due c (O₀ c))
      ⊢ WP (cc0__body (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6)
        (fun _ => iprop(Pipeline.ownSems0 osem c ∗ semVal (barCell c) 0 ∗ ins c (given m c)
          ∗ (anyPt (F := F) c cc0_scratch0 ∗ anyPt (F := F) c cc0_scratch1 ∗ anyPt (F := F) c cc0_scratch2) ∗ pt c cc0_stg5_0 (result m) ∗ due c 0)) := by
  unfold entered anyPt
  iintro ⟨⟨⟨%K, Hr⟩, Hown⟩, H, ⟨⟨%f0, H0⟩, ⟨%f1, H1⟩, ⟨%f2, H2⟩⟩, ⟨%f5, H5⟩, HO⟩
  iapply (wp_fupd frame (wpE (defs₀ (F := F)) 𝒱₀ (c : Thread nD τ) none) Set.univ _ _)
  iapply (wp_wand frame (wpE (defs₀ (F := F)) 𝒱₀ (c : Thread nD τ) none) Set.univ) $$ [Hr H H0 H1 H2 H5 HO]
  · iapply (body_run (prods m) K c (given m c) rfl f0 f1 f2 f5)
    isplitl [Hr]; · iexact Hr
    isplitl [H]; · iexact H
    isplitl [H0]; · iexact H0
    isplitl [H1]; · iexact H1
    isplitl [H2]; · iexact H2
    isplitl [H5]; · iexact H5
    iexact HO
  iintro %u ⟨Hs, H, H0, H1, H2, H5, HO⟩
  unfold spent hand
  icases Hs with ⟨⟨#Hi, #Hl⟩, Hb, Hp⟩
  imod (all_closed c (prods m) K) $$ [Hp Hown] with Hos
  · isplitr; · iexact Hi
    iapply (all_places c)
    isplitl [Hown]; · iexact Hown
    iexact Hp
  imod (Rounds.cell_close ER (talk (prods m)) (g := barCell c) (κ := K (barCell c)) (R := 1) (Set.mem_univ _) id (duties_later (prods m) _)) $$ [Hb] with Hb
  · isplitr; · iapply (invs_bar (prods m) K c) $$ Hi
    iexact Hb
  imodintro
  isplitl [Hos]; · iexact Hos
  isplitl [Hb]; · iexact Hb
  isplitl [H]; · iexact H
  isplitl [H0 H1 H2]
  · isplitl [H0]; · iexists _; iexact H0
    isplitl [H1]; · iexists _; iexact H1
    iexists _; iexact H2
  isplitl [H5]; · iexact H5
  iexact HO

end Cert.KernelIdeal
-- ==== Proof.Region.lean ====
/-
The kernel's region: what it is entered with, what the pipeline stages, and what it leaves.
-/
module

public import proofs.«01_k».proof.Proof.Obligation

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-! ## Opening the cells -/

/-- The rights to pay device `p` that device `c` has from the launch. -/
def rights (p : Dev nD) : sProp 𝕄 :=
  iprop((dutyTok ER (barCell p) 0 c ∗ reached ER (barCell p) 0)
    ∗ (dutyTok ER (cell 0 c p) 0 p ∗ dutyTok ER (cell 1 p c) 0 c) ∗ (dutyTok ER (cell 2 c p) 0 p ∗ dutyTok ER (cell 3 p c) 0 c))

/-- What the launch keeps for device `c`. -/
def ghost (K : GSem nD τ sig → ℕ) : sProp 𝕄 :=
  iprop(invs (prods m) K ∗ atPos ER (barCell c) 0 ∅ 0
    ∗ bigSep (Finset.univ : Finset (Fin 4 × Dev nD)) (fun x => openTok ER (cell x.1 c x.2)) ∗ bigSep (Finset.univ.erase c) (rights (F := F) c))
def kept : sProp 𝕄 :=
  iprop((∃ K, ghost m c K) ∗ cred (tallyAt (barCell c) () 31) ∗ credits (F := F) c 1 ∗ credits (F := F) c 3)

def allReached : sProp 𝕄 := bigSep (Finset.univ : Finset (Fin 4 × Dev nD)) (fun x => reached ER (cell x.1 c x.2) 0)
instance allReached_persistent : BI.Persistent (allReached (F := F) c) := by unfold allReached; infer_instance

theorem one_open (K : GSem nD τ sig → ℕ) (x : Fin 4 × Dev nD) :
    iprop(invs (prods m) K ∗ (openTok ER (cell x.1 c x.2) ∗ semVal (cell x.1 c x.2) 0))
      ⊢ (|={Set.univ}=> iprop(atPos ER (cell x.1 c x.2) 0 ∅ 0 ∗ reached ER (cell x.1 c x.2) 0) : sProp 𝕄) := by
  iintro ⟨#Hi, Ho, Hs⟩
  iapply (Rounds.cell_open ER (talk (prods m)) (g := cell x.1 c x.2) (Set.mem_univ (K (cell x.1 c x.2)))) $$ [Ho Hs]
  · isplitr; · iapply (invs_cell (prods m) K x.1 c x.2) $$ Hi
    isplitl [Ho] <;> iassumption

theorem all_open (K : GSem nD τ sig → ℕ) :
    iprop(invs (prods m) K ∗ bigSep (Finset.univ : Finset (Fin 4 × Dev nD)) (fun x => openTok ER (cell x.1 c x.2)) ∗ Pipeline.ownSems0 osem c)
      ⊢ (|={Set.univ}=> iprop(allPlaces (F := F) c (fun _ => 0) ∗ allReached (F := F) c) : sProp 𝕄) := by
  have h0 : iprop(bigSep (Finset.univ : Finset (Fin 4 × Dev nD)) (fun x => openTok ER (cell x.1 c x.2)) ∗ Pipeline.ownSems0 osem c)
      ⊢ bigSep (Finset.univ : Finset (Fin 4 × Dev nD)) (fun x => (iprop(openTok ER (cell x.1 c x.2) ∗ semVal (cell x.1 c x.2) 0) : sProp 𝕄)) :=
    zip Finset.univ (fun x : Fin 4 × Dev nD => openTok ER (cell x.1 c x.2)) (fun x => semVal (cell x.1 c x.2) 0)
  have h1 : iprop(invs (prods m) K ∗ bigSep (Finset.univ : Finset (Fin 4 × Dev nD)) (fun x => (iprop(openTok ER (cell x.1 c x.2) ∗ semVal (cell x.1 c x.2) 0) : sProp 𝕄)))
      ⊢ bigSep (Finset.univ : Finset (Fin 4 × Dev nD))
          (fun x => (iprop(|={Set.univ}=> iprop(atPos ER (cell x.1 c x.2) 0 ∅ 0 ∗ reached ER (cell x.1 c x.2) 0)) : sProp 𝕄)) :=
    bigSep_with_persistent fun x _ => one_open m c K x
  have h2 : bigSep (Finset.univ : Finset (Fin 4 × Dev nD))
          (fun x => (iprop(|={Set.univ}=> iprop(atPos ER (cell x.1 c x.2) 0 ∅ 0 ∗ reached ER (cell x.1 c x.2) 0)) : sProp 𝕄))
      ⊢ (|={Set.univ}=> bigSep (Finset.univ : Finset (Fin 4 × Dev nD))
          (fun x => iprop(atPos ER (cell x.1 c x.2) 0 ∅ 0 ∗ reached ER (cell x.1 c x.2) 0)) : sProp 𝕄) := BI.bigSep_fupd Finset.univ _
  iintro ⟨#Hi, H⟩
  ihave H := h0 $$ H
  imod (h1.trans h2) $$ [H] with H
  · isplitr; · iexact Hi
    iexact H
  imodintro
  unfold allPlaces allReached
  iapply (unzip Finset.univ (fun x : Fin 4 × Dev nD => atPos ER (cell x.1 c x.2) 0 ∅ 0) (fun x => reached ER (cell x.1 c x.2) 0)) $$ H

theorem reached_at (k : Fin 4) (p : Dev nD) : allReached (F := F) c ⊢ reached ER (cell k c p) 0 := by
  unfold allReached
  exact sep_take (Φ := fun x : Fin 4 × Dev nD => reached ER (cell x.1 c x.2) 0) (Finset.mem_univ (k, p))

theorem kits (p : Dev nD) : iprop(allReached (F := F) c ∗ rights (F := F) c p) ⊢ iprop(sigKit (F := F) c p ∗ (aKit (F := F) c p ∗ bKit (F := F) c p)) := by
  unfold rights sigKit aKit bKit
  iintro ⟨#Hr, ⟨Hb, #Hrb⟩, ⟨H0, H1⟩, H2, H3⟩
  isplitl [Hb]
  · isplitl [Hb]; · iexact Hb
    isplitr; · iexact Hrb
    isplitr; · iapply (reached_at c 1 p) $$ Hr
    iapply (reached_at c 3 p) $$ Hr
  isplitl [H0 H1]
  · isplitl [H0]; · iexact H0
    isplitr; · iapply (reached_at c 0 p) $$ Hr
    iexact H1
  isplitl [H2]; · iexact H2
  isplitr; · iapply (reached_at c 2 p) $$ Hr
  iexact H3

theorem all_kits : iprop(allReached (F := F) c ∗ bigSep (Finset.univ.erase c) (rights (F := F) c))
    ⊢ iprop(bigSep (Finset.univ.erase c) (sigKit (F := F) c) ∗ bigSep (Finset.univ.erase c) (aKit (F := F) c) ∗ bigSep (Finset.univ.erase c) (bKit (F := F) c)) := by
  have h : iprop(allReached (F := F) c ∗ bigSep (Finset.univ.erase c) (rights (F := F) c))
      ⊢ bigSep (Finset.univ.erase c) (fun p => iprop(sigKit (F := F) c p ∗ (aKit (F := F) c p ∗ bKit (F := F) c p))) :=
    bigSep_with_persistent fun p _ => kits c p
  refine h.trans ?_
  rw [bigSep_sep', bigSep_sep']

/-- Entering the region opens every cell of the kernel's own. -/
theorem open_region : iprop(kept m c ∗ Pipeline.ownSems0 osem c ∗ levAts L lv) ⊢ (|={Set.univ}=> entered m c : sProp 𝕄) := by
  unfold kept ghost entered ready hand
  iintro ⟨⟨⟨%K, #Hi, Hb, Hot, Hr⟩, Hcb, Hc1, Hc3⟩, Hos, #Hl⟩
  imod (all_open m c K) $$ [Hot Hos] with ⟨Hp, #Hre⟩
  · isplitr; · iexact Hi
    isplitl [Hot] <;> iassumption
  ihave Hk := (all_kits c) $$ [Hr]
  · isplitr; · iexact Hre
    iexact Hr
  icases Hk with ⟨Hsk, Hak, Hbk⟩
  have hp : allPlaces (F := F) c (fun _ => 0)
      = iprop(ownPlaces (F := F) c ∗ (places (F := F) c 0 0 ∗ places (F := F) c 1 0 ∗ places (F := F) c 2 0 ∗ places (F := F) c 3 0)) := by
    unfold allPlaces
    rw [places_apart c (fun k p => atPos ER (cell k c p) 0 ∅ 0), fin4 (fun k => bigSep (Finset.univ.erase c) (fun p => atPos ER (cell k c p) 0 ∅ 0))]
    rfl
  ihave Hp := (Entails.of_eq hp) $$ Hp
  icases Hp with ⟨Hown, Hp⟩
  imodintro
  isplitr [Hown]
  · iexists K
    isplitr
    · isplitr; · iexact Hi
      iexact Hl
    isplitl [Hsk]; · iexact Hsk
    isplitl [Hak]; · iexact Hak
    isplitl [Hbk]; · iexact Hbk
    isplitl [Hcb]; · iexact Hcb
    isplitl [Hb]; · iexact Hb
    isplitl [Hc1 Hc3]; · isplitl [Hc1] <;> iassumption
    iexact Hp
  iexact Hown

/-! ## The proof data -/

def scratches : sProp 𝕄 := iprop(anyPt (F := F) c cc0_scratch0 ∗ anyPt (F := F) c cc0_scratch1 ∗ anyPt (F := F) c cc0_scratch2)

theorem scratches_eq : (Pipeline.scopedRest (Ix := Unit) (Name := ℕ) (U := UU) (Lvl := ℕ) (Val := Elt F) (Pipeline.pin (pcfgs (F := F)) Gen.adm 0).spec c : sProp 𝕄)
    = scratches (F := F) c := Gen.scopedRest0_eq c

def before : sProp 𝕄 := iprop(entered m c ∗ scratches (F := F) c ∗ ∃ r, prngReg c r)
def afterwards : sProp 𝕄 := iprop((Pipeline.ownSems0 osem c ∗ semVal (barCell c) 0) ∗ scratches (F := F) c ∗ ∃ r, prngReg c r)

def dat (c : Dev nD) : Dat τ (Elt F) Unit ℕ UU ℕ cfg0 c where
  A := fun
    | 0 => Gen.V1 m c main_arg0
    | 1 => Gen.V1 m c main_arg1
    | 2 => Gen.V1 m c main_v9
    | 3 => Gen.V1 m c main_v14
    | 4 => Gen.V1 m c main_arg4
    | 5 => Gen.V1 m c main_v15
    | ⟨_ + 6, h⟩ => absurd h (Nat.not_lt.2 (Nat.le_add_left _ _))
  after := fun
    | 0 => fun _ => (given m c).x
    | 1 => fun _ => (given m c).wq
    | 2 => fun _ => (given m c).k
    | 3 => fun _ => (given m c).v
    | 4 => fun _ => (given m c).wo
    | 5 => fun _ => result m
    | ⟨_ + 6, h⟩ => absurd h (Nat.not_lt.2 (Nat.le_add_left _ _))
  Φ t := if t.val = 0 then before m c else afterwards (F := F) c
  q _ := fullShare
  owed t := if t.val = 0 then O₀ c else 0

def dats : (p : Fin 1) → (c : Dev nD) → Dat τ (Elt F) Unit ℕ UU ℕ (Pipeline.pin (pcfgs (F := F)) Gen.adm p) c
  | 0 => dat m

theorem owed_first : (dat m c).owed Gen.t0_0.castSucc = O₀ c := by
  show (if (Gen.t0_0.castSucc : Fin (cfg0.N + 1)).val = 0 then O₀ c else 0) = O₀ c
  exact if_pos rfl
theorem last_pos : (Fin.last cfg0.N).val ≠ 0 := by
  rw [Fin.val_last]
  exact fun h => absurd (Gen.N_0.symm.trans h) (by decide)
theorem owed_last : (dat m c).owed (Fin.last _) = 0 := by
  show (if (Fin.last cfg0.N).val = 0 then O₀ c else 0) = 0
  exact if_neg last_pos
theorem succ_last : (Gen.t0_0.succ : Fin (cfg0.N + 1)) = Fin.last _ :=
  Fin.ext (Gen.N_0.symm)
theorem Φ_first : (dat m c).Φ Gen.t0_0.castSucc = before m c := by
  show (if (Gen.t0_0.castSucc : Fin (cfg0.N + 1)).val = 0 then before m c else afterwards (F := F) c) = before m c
  exact if_pos rfl
theorem Φ_last : (dat m c).Φ (Fin.last _) = afterwards (F := F) c := by
  show (if (Fin.last cfg0.N).val = 0 then before m c else afterwards (F := F) c) = afterwards (F := F) c
  exact if_neg last_pos

/-- What a device owes, within any record of its waits. -/
theorem due_in (t : Fin (cfg0.N + 1)) {O : CellTallies nD τ sig Unit} (h : (dat m c).owed t = O) : due (F := F) c O ⊢ (dat m c).owesAt () t := by
  unfold due Dat.owesAt Pipeline.owesWithin Dat.bound
  rw [h]
  iintro ⟨%W, H⟩
  iexists W
  isplitr
  · ipureintro; exact fun _ _ => Or.inl trivial
  iexact H
theorem due_out (t : Fin (cfg0.N + 1)) {O : CellTallies nD τ sig Unit} (h : (dat m c).owed t = O) : (dat m c).owesAt () t ⊢ due (F := F) c O := by
  unfold due Dat.owesAt Pipeline.owesWithin
  rw [h]
  iintro ⟨%W, -, H⟩
  iexists W
  iexact H

theorem fetched0 (d) : (dat m c).before 0 Gen.t0_0 d = (given m c).x := by
  rw [(dat m c).before_fetched 0 Gen.t0_0 (Gen.fetch0_0 _)]
  exact funext fun y => congrArg (Gen.V1 m c main_arg0) (funext fun a => Fin.ext (by fin_cases a <;> exact Nat.zero_add _ |>.trans (Nat.one_mul _)))
theorem fetched1 (d) : (dat m c).before 1 Gen.t0_0 d = (given m c).wq := by
  rw [(dat m c).before_fetched 1 Gen.t0_0 (Gen.fetch0_1 _)]
  exact funext fun y => congrArg (Gen.V1 m c main_arg1) (funext fun a => Fin.ext (by fin_cases a <;> exact Nat.zero_add _ |>.trans (Nat.one_mul _)))
theorem fetched2 (d) : (dat m c).before 2 Gen.t0_0 d = (given m c).k := by
  rw [(dat m c).before_fetched 2 Gen.t0_0 (Gen.fetch0_2 _)]
  exact funext fun y => congrArg (Gen.V1 m c main_v9) (funext fun a => Fin.ext (by fin_cases a <;> exact Nat.zero_add _ |>.trans (Nat.one_mul _)))
theorem fetched3 (d) : (dat m c).before 3 Gen.t0_0 d = (given m c).v := by
  rw [(dat m c).before_fetched 3 Gen.t0_0 (Gen.fetch0_3 _)]
  exact funext fun y => congrArg (Gen.V1 m c main_v14) (funext fun a => Fin.ext (by fin_cases a <;> exact Nat.zero_add _ |>.trans (Nat.one_mul _)))
theorem fetched4 (d) : (dat m c).before 4 Gen.t0_0 d = (given m c).wo := by
  rw [(dat m c).before_fetched 4 Gen.t0_0 (Gen.fetch0_4 _)]
  exact funext fun y => congrArg (Gen.V1 m c main_arg4) (funext fun a => Fin.ext (by fin_cases a <;> exact Nat.zero_add _ |>.trans (Nat.one_mul _)))
theorem hold0 (f : cc0_stg0_0.ty.Contents (Elt F)) : (owns (c : Thread nD τ) (stage0_0 0) fullShare f : sProp 𝕄) = pt c cc0_stg0_0 f := owns_whole _ _ _ _
theorem hold1 (f : cc0_stg1_0.ty.Contents (Elt F)) : (owns (c : Thread nD τ) (stage0_1 0) fullShare f : sProp 𝕄) = pt c cc0_stg1_0 f := owns_whole _ _ _ _
theorem hold2 (f : cc0_stg2_0.ty.Contents (Elt F)) : (owns (c : Thread nD τ) (stage0_2 0) fullShare f : sProp 𝕄) = pt c cc0_stg2_0 f := owns_whole _ _ _ _
theorem hold3 (f : cc0_stg3_0.ty.Contents (Elt F)) : (owns (c : Thread nD τ) (stage0_3 0) fullShare f : sProp 𝕄) = pt c cc0_stg3_0 f := owns_whole _ _ _ _
theorem hold4 (f : cc0_stg4_0.ty.Contents (Elt F)) : (owns (c : Thread nD τ) (stage0_4 0) fullShare f : sProp 𝕄) = pt c cc0_stg4_0 f := owns_whole _ _ _ _
theorem hold5 (f : cc0_stg5_0.ty.Contents (Elt F)) : (owns (c : Thread nD τ) (stage0_5 0) fullShare f : sProp 𝕄) = pt c cc0_stg5_0 f := owns_whole _ _ _ _

/-- What the body is handed, in the shape of its run, -/
theorem handed : iprop(before m c ∗ (dat m c).owesAt () Gen.t0_0.castSucc ∗ ins c (given m c) ∗ anyPt (F := F) c cc0_stg5_0)
    ⊢ iprop((∃ r, prngReg c r) ∗ (entered m c ∗ ins c (given m c) ∗ (anyPt (F := F) c cc0_scratch0 ∗ anyPt (F := F) c cc0_scratch1 ∗ anyPt (F := F) c cc0_scratch2)
        ∗ anyPt (F := F) c cc0_stg5_0 ∗ due (F := F) c (O₀ c))) := by
  unfold before scratches
  iintro ⟨⟨He, Hs, Hp⟩, HO, H, H5⟩
  ihave HO := (due_out m c _ (owed_first m c)) $$ HO
  isplitl [Hp]; · iexact Hp
  isplitl [He]; · iexact He
  isplitl [H]; · iexact H
  isplitl [Hs]; · iexact Hs
  isplitl [H5]; · iexact H5
  iexact HO
/-- and what it hands back. -/
theorem handed_back : iprop((∃ r, prngReg c r) ∗ (Pipeline.ownSems0 osem c ∗ semVal (barCell c) 0 ∗ ins c (given m c)
      ∗ (anyPt (F := F) c cc0_scratch0 ∗ anyPt (F := F) c cc0_scratch1 ∗ anyPt (F := F) c cc0_scratch2) ∗ pt c cc0_stg5_0 (result m) ∗ due (F := F) c 0))
    ⊢ iprop(afterwards (F := F) c ∗ (dat m c).owesAt () (Fin.last _) ∗ ins c (given m c) ∗ pt c cc0_stg5_0 (result m)) := by
  unfold afterwards scratches
  iintro ⟨Hp, Hos, Hb, H, Hs, H5, HO⟩
  ihave HO := (due_in m c _ (owed_last m c)) $$ HO
  isplitl [Hp Hos Hb Hs]
  · isplitl [Hos Hb]; · isplitl [Hos] <;> iassumption
    isplitl [Hs]; · iexact Hs
    iexact Hp
  isplitl [HO]; · iexact HO
  isplitl [H]; · iexact H
  iexact H5

theorem staged_in {D0 D1 D2 D3 D4 D5 : Type} (P Q : sProp 𝕄) (g : Given F) (f : D5 → cc0_stg5_0.ty.Contents (Elt F)) :
    iprop(P ∗ Q ∗ (∃ _d : D0, owns (c : Thread nD τ) (stage0_0 0) fullShare g.x) ∗ (∃ _d : D1, owns (c : Thread nD τ) (stage0_1 0) fullShare g.wq)
        ∗ (∃ _d : D2, owns (c : Thread nD τ) (stage0_2 0) fullShare g.k) ∗ (∃ _d : D3, owns (c : Thread nD τ) (stage0_3 0) fullShare g.v)
        ∗ (∃ _d : D4, owns (c : Thread nD τ) (stage0_4 0) fullShare g.wo) ∗ ∃ d : D5, owns (c : Thread nD τ) (stage0_5 0) fullShare (f d))
      ⊢ iprop(P ∗ Q ∗ ins c g ∗ anyPt (F := F) c cc0_stg5_0) := by
  unfold ins anyPt
  iintro ⟨Hb, HO, ⟨%d0, H0⟩, ⟨%d1, H1⟩, ⟨%d2, H2⟩, ⟨%d3, H3⟩, ⟨%d4, H4⟩, ⟨%d5, H5⟩⟩
  isplitl [Hb]; · iexact Hb
  isplitl [HO]; · iexact HO
  isplitl [H0 H1 H2 H3 H4]
  · isplitl [H0]; · iapply (Entails.of_eq (hold0 c _)) $$ H0
    isplitl [H1]; · iapply (Entails.of_eq (hold1 c _)) $$ H1
    isplitl [H2]; · iapply (Entails.of_eq (hold2 c _)) $$ H2
    isplitl [H3]; · iapply (Entails.of_eq (hold3 c _)) $$ H3
    iapply (Entails.of_eq (hold4 c _)) $$ H4
  iexists _
  iapply (Entails.of_eq (hold5 c _)) $$ H5

theorem staged_out (P Q : sProp 𝕄) (g : Given F) (f : cc0_stg5_0.ty.Contents (Elt F)) :
    iprop(P ∗ Q ∗ ins c g ∗ pt c cc0_stg5_0 f)
      ⊢ iprop(P ∗ Q ∗ owns (c : Thread nD τ) (stage0_0 0) fullShare g.x ∗ owns (c : Thread nD τ) (stage0_1 0) fullShare g.wq
        ∗ owns (c : Thread nD τ) (stage0_2 0) fullShare g.k ∗ owns (c : Thread nD τ) (stage0_3 0) fullShare g.v
        ∗ owns (c : Thread nD τ) (stage0_4 0) fullShare g.wo ∗ owns (c : Thread nD τ) (stage0_5 0) fullShare f) := by
  unfold ins
  iintro ⟨Hb, HO, ⟨H0, H1, H2, H3, H4⟩, H5⟩
  isplitl [Hb]; · iexact Hb
  isplitl [HO]; · iexact HO
  isplitl [H0]; · iapply (Entails.of_eq (hold0 c _).symm) $$ H0
  isplitl [H1]; · iapply (Entails.of_eq (hold1 c _).symm) $$ H1
  isplitl [H2]; · iapply (Entails.of_eq (hold2 c _).symm) $$ H2
  isplitl [H3]; · iapply (Entails.of_eq (hold3 c _).symm) $$ H3
  isplitl [H4]; · iapply (Entails.of_eq (hold4 c _).symm) $$ H4
  iapply (Entails.of_eq (hold5 c _).symm) $$ H5

set_option backward.isDefEq.respectTransparency.types false in
theorem body_ok : BodyObligation (dat m c) defs₀ 𝒱₀ () Set.univ := fun t => by
  obtain rfl := Gen.fin_N0 t
  rw [Gen.bigSep_W0, Gen.bigSep_W0, succ_last, Φ_first, Φ_last]
  simp only [fetched0, fetched1, fetched2, fetched3, fetched4]
  have hb : iprop(before m c ∗ (dat m c).owesAt () Gen.t0_0.castSucc ∗ ins c (given m c) ∗ anyPt (F := F) c cc0_stg5_0)
      ⊢ wp frame (wpE (defs₀ (F := F)) 𝒱₀ (c : Thread nD τ) none) Set.univ (defs₀ (F := F) .tc 0 (Gen.t0_0, cfg0.slots Gen.t0_0))
        (fun _ => iprop(afterwards (F := F) c ∗ (dat m c).owesAt () (Fin.last _) ∗ ins c (given m c) ∗ pt c cc0_stg5_0 (result m))) :=
    (handed m c).trans (((sep_mono_right (body_closed m c)).trans (wp_frame_l frame (wpE (defs₀ (F := F)) 𝒱₀ (c : Thread nD τ) none) Set.univ)).trans
      (wp_mono frame (wpE (defs₀ (F := F)) 𝒱₀ (c : Thread nD τ) none) Set.univ fun _ => handed_back m c))
  exact (staged_in c _ _ (given m c) _).trans (hb.trans
    (wp_mono frame (wpE (defs₀ (F := F)) 𝒱₀ (c : Thread nD τ) none) Set.univ fun _ => staged_out c _ _ (given m c) (result m)))

/-! ## The region -/

theorem launch_facts : Pipeline.PLaunchFacts (nD := nD) (τ := τ) (pcfgs (F := F)) 0 := Gen.launch0.toP

theorem own_facts : Pipeline.OwnSemFacts spec0 osem where
  isScoped := by decide
  inj := osem_inj
  disj := by decide

/-- The buffers after the region: the result's is the sum, and no other has changed. -/
def V2 (c : Dev nD) : Valuation τ sig (Elt F) := Function.update (Gen.V1 m c) main_v15 (result m)

theorem V2_out : V2 m c main_v15 = result m := Function.update_self _ _ _
theorem V2_ne (b : DevRef τ sig) (h : b ≠ Proc.devRef .tc main_v15) : V2 m c b = Gen.V1 m c b := Function.update_of_ne h _ _

/-- The arrays the pipeline moves, and the buffers the region does not touch. -/
abbrev arrs : Finset (DevRef τ sig) := Pipeline.arrRefs (τ := τ) spec0
abbrev others : Finset (DevRef τ sig) := Pipeline.ucRefs τ sig \ arrs

theorem arrs_sub : arrs ⊆ Pipeline.ucRefs τ sig := Pipeline.arrRefs_sub_ucRefs spec0 (by decide)
theorem out_arr : Proc.devRef .tc main_v15 ∈ arrs := by decide

theorem others_same (b : DevRef τ sig) (h : b ∈ others \ ∅) : V2 m c b = Gen.V1 m c b :=
  V2_ne m c b fun e => by
    subst e
    exact (Finset.mem_sdiff.mp (Finset.mem_sdiff.mp h).1).2 out_arr

theorem entry_arrays (w : Fin 6) : (dat m c).arrAt w 0 = Gen.V1 m c (Proc.devRef .tc (Pipeline.arrRef spec0 w)) := by
  fin_cases w <;> rfl

theorem exit_arrays (w : Fin 6) : (dat m c).arrAt w cfg0.N = V2 m c (Proc.devRef .tc (Pipeline.arrRef spec0 w)) := by
  fin_cases w
  · exact ((dat m c).arrAt_in 0 rfl _).trans (V2_ne m c (Proc.devRef .tc main_arg0) (by decide)).symm
  · exact ((dat m c).arrAt_in 1 rfl _).trans (V2_ne m c (Proc.devRef .tc main_arg1) (by decide)).symm
  · exact ((dat m c).arrAt_in 2 rfl _).trans (V2_ne m c (Proc.devRef .tc main_v9) (by decide)).symm
  · exact ((dat m c).arrAt_in 3 rfl _).trans (V2_ne m c (Proc.devRef .tc main_v14) (by decide)).symm
  · exact ((dat m c).arrAt_in 4 rfl _).trans (V2_ne m c (Proc.devRef .tc main_arg4) (by decide)).symm
  · refine Eq.trans ?_ (V2_out m c).symm
    exact (dat m c).arrAt_eq_of_after_last 5 Gen.t0_0 (by decide +kernel) (result m) (fun j => rfl)

theorem owed_level (x : GSem nD τ sig) (u : Unit) (h : 0 < O₀ c x u) : x.1.2 = .tc ∧ 0 < lvOf x.2 := by
  unfold O₀ at h
  rcases add_pos_or _ _ x u h with h | h
  · obtain ⟨h1, h2⟩ := owedBar_pos _ x u h
    exact ⟨h1, by rw [h2]; decide⟩
  rcases add_pos_or _ _ x u h with h | h
  · obtain ⟨h1, h2⟩ := owedAt_pos 1 c _ x u h
    exact ⟨h1, by rw [h2]; decide⟩
  · obtain ⟨h1, h2⟩ := owedAt_pos 3 c _ x u h
    exact ⟨h1, by rw [h2]; decide⟩

theorem cut : Pipeline.LevelCutOwed (pcfgs (F := F)) Gen.adm (dats m) () L lv 0 (fun _ => 0) where
  hι _ _ _ := by rw [L_tc]; exact Finset.mem_singleton_self _
  hιb _ w s := (by decide : ∀ (w : Fin 6) (s : Fin (win0 w).nbuf), lvOf (.dma ((win0 w).sem s)) ≤ 0) w s
  hD c t g i h := by
    have e : (dats m 0 c).owed t = if t.val = 0 then O₀ c else 0 := rfl
    rw [e] at h
    split at h
    · obtain ⟨h1, h2⟩ := owed_level c g i h
      refine ⟨?_, h2⟩
      unfold L
      rw [if_pos h1]
      exact Finset.mem_singleton_self _
    · exact absurd h (Nat.lt_irrefl 0)

theorem region_in : iprop(Pipeline.scopedRest (Pipeline.pin (pcfgs (F := F)) Gen.adm 0).spec c ∗ (∃ r, prngReg c r)
      ∗ StableHlo.held (c.tc : Thread nD τ) ∅ (Gen.V1 m c) ∗ entered m c) ⊢ (dats m 0 c).Φ 0 := by
  rw [show (dats m 0 c).Φ 0 = before m c from Φ_first m c, scratches_eq]
  unfold before
  iintro ⟨Hs, Hp, -, He⟩
  isplitl [He]; · iexact He
  isplitl [Hs]; · iexact Hs
  iexact Hp

theorem region_out : (dats m 0 c).Φ (Fin.last (Pipeline.pin (pcfgs (F := F)) Gen.adm 0).N)
    ⊢ iprop(Pipeline.scopedRest (Pipeline.pin (pcfgs (F := F)) Gen.adm 0).spec c ∗ (∃ r, prngReg c r)
      ∗ StableHlo.held (c.tc : Thread nD τ) ∅ (V2 m c) ∗ Pipeline.ownSems0 osem c ∗ semVal (barCell c) 0) := by
  rw [show (dats m 0 c).Φ (Fin.last _) = afterwards (F := F) c from Φ_last m c, scratches_eq]
  unfold afterwards
  iintro ⟨⟨Hos, Hb⟩, Hs, Hp⟩
  isplitl [Hs]; · iexact Hs
  isplitl [Hp]; · iexact Hp
  isplitr
  · unfold StableHlo.held; rw [BI.bigSep_empty]; iempintro
  isplitl [Hos]; · iexact Hos
  iexact Hb

set_option backward.isDefEq.respectTransparency.types false in
def region : Pipeline.RegionSeg (pcfgs (F := F)) Gen.adm (dats m) () defs₀ 𝒱₀ L lv 0 :=
  Pipeline.RegionSeg.ofTalk (pcfgs (F := F)) Gen.adm (dats m) () defs₀ 𝒱₀ L lv 0 osem own_facts
    ∅ others (Finset.empty_subset _) launch_facts rfl (fun c => (body_ok m c).loose)
    (fun _ => 0) O₀ (fun c => (owed_first m c).trans (zero_add _).symm) (owed_last m) (fun _ => rfl) (fun _ w => by fin_cases w <;> rfl)
    (Gen.V1 m) (V2 m) (fun c b hb => others_same m c b hb)
    (kept m) (fun c => semVal (barCell c) 0) (entered m) (fun c => semVal (barCell c) 0) (open_region m) (region_in m) (region_out m)
    (fun c => by iintro H; imodintro; iexact H)
    (fun _ => 0) (cut m) (fun _ => iprop(emp)) (entry_arrays m) (exit_arrays m)

end Cert.KernelIdeal
-- ==== Proof.Launch.lean ====
/-
The launch: the cells and their tokens are made once for all devices, and each device is given its own part.
-/
module

public import proofs.«01_k».proof.Proof.Region

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## The cells and the tokens -/

/-- A device's semaphore of an array, for a device. -/
abbrev Slot : Type := Dev nD × (Fin 4 × Dev nD)

theorem dev_of_cell {c d : Dev nD} {s t : SemLoc sig} (h : ((c : Thread nD τ), s) = ((d : Thread nD τ), t)) : c = d :=
  congrArg (fun g : GSem nD τ sig => g.1.1) h

theorem reg_ne_dma {s : Sem sig} {t : DmaSem sig} (h : (SemLoc.reg s : SemLoc sig) = .dma t) : False := by cases h

def barEmb : Dev nD ↪ GSem nD τ sig := ⟨fun c => barCell c, fun _ _ h => dev_of_cell h⟩
def cellEmb : Slot ↪ GSem nD τ sig :=
  ⟨fun x => cell x.2.1 x.1 x.2.2, fun _ _ h => Prod.ext (dev_of_cell h) (osem_inj (congrArg Prod.snd h))⟩

def barCells : Finset (GSem nD τ sig) := Finset.univ.map barEmb
def ownCells : Finset (GSem nD τ sig) := Finset.univ.map cellEmb

theorem cells_apart : Disjoint barCells ownCells := by
  rw [Finset.disjoint_left]
  intro g h h'
  obtain ⟨c, -, rfl⟩ := Finset.mem_map.mp h
  obtain ⟨x, -, h'⟩ := Finset.mem_map.mp h'
  exact reg_ne_dma (congrArg (fun g : GSem nD τ sig => g.2) h').symm

/-- A duty: of a device on a barrier, or the one duty of another cell. -/
def dutyEmb : (Dev nD × Dev nD) ⊕ Slot ↪ GSem nD τ sig × ℕ × Dev nD :=
  ⟨Sum.elim (fun x => (barCell x.1, 0, x.2)) (fun x => (cell x.2.1 x.1 x.2.2, 0, x.2.2)), by
    rintro (x | x) (y | y) h
    · exact congrArg Sum.inl (Prod.ext (dev_of_cell (congrArg Prod.fst h)) (congrArg (fun t => t.2.2) h))
    · exact (reg_ne_dma (congrArg (fun t : GSem nD τ sig × ℕ × Dev nD => t.1.2) h)).elim
    · exact (reg_ne_dma (congrArg (fun t : GSem nD τ sig × ℕ × Dev nD => t.1.2) h).symm).elim
    · exact congrArg Sum.inr (cellEmb.injective (congrArg Prod.fst h))⟩
def duties : Finset (GSem nD τ sig × ℕ × Dev nD) := Finset.univ.map dutyEmb

/-! ## Each device's part -/

variable (c : Dev nD)

/-- The duties of device `c`, those it would have for itself among them. -/
def tokens : sProp 𝕄 :=
  iprop(bigSep Finset.univ (fun p : Dev nD => dutyTok ER (barCell p) 0 c) ∗ bigSep Finset.univ (fun p : Dev nD => dutyTok ER (cell 0 c p) 0 p)
    ∗ bigSep Finset.univ (fun p : Dev nD => dutyTok ER (cell 1 p c) 0 c) ∗ bigSep Finset.univ (fun p : Dev nD => dutyTok ER (cell 2 c p) 0 p)
    ∗ bigSep Finset.univ (fun p : Dev nD => dutyTok ER (cell 3 p c) 0 c))

theorem duties_split :
    bigSep duties (fun x => (dutyTok ER x.1 x.2.1 x.2.2 : sProp 𝕄)) = bigSep Finset.univ (fun c : Dev nD => (tokens (F := F) c)) := by
  have h (k : Fin 4) : bigSep Finset.univ (fun c : Dev nD => bigSep Finset.univ (fun p : Dev nD => (dutyTok ER (cell k c p) 0 p : sProp 𝕄)))
      = bigSep Finset.univ (fun c : Dev nD => bigSep Finset.univ (fun p : Dev nD => (dutyTok ER (cell k p c) 0 c : sProp 𝕄))) :=
    BI.bigSep_univ_comm (fun c p : Dev nD => (dutyTok ER (cell k c p) 0 p : sProp 𝕄))
  unfold duties tokens
  rw [bigSep_map, BI.bigSep_univ_sum, bigSep_sep', bigSep_sep', bigSep_sep', bigSep_sep', ← h 1, ← h 3]
  refine congrArg₂ _ ?_ ?_
  · rw [bigSep_univ_prod]
    exact BI.bigSep_univ_comm (fun p d : Dev nD => (dutyTok ER (barCell p) 0 d : sProp 𝕄))
  · rw [bigSep_univ_prod, ← bigSep_sep', ← bigSep_sep', ← bigSep_sep']
    refine bigSep_congr fun c _ => ?_
    rw [bigSep_univ_prod]
    exact fin4 (fun k => bigSep Finset.univ (fun p : Dev nD => (dutyTok ER (cell k c p) 0 p : sProp 𝕄)))

/-- What of the launch's own state stays with device `c`. -/
def share : sProp 𝕄 :=
  iprop(atPos ER (barCell c) 0 ∅ 0 ∗ bigSep (Finset.univ : Finset (Fin 4 × Dev nD)) (fun x => openTok ER (cell x.1 c x.2)) ∗ tokens (F := F) c)

variable [FloatOps F] (m : (ℓ : Loc nD τ sig) → Buf (Elt F) ℓ)

/-- What every device may read: all the invariants, and that no barrier has a round before the first. -/
def common (K : GSem nD τ sig → ℕ) : sProp 𝕄 :=
  iprop(bigSep (barCells ∪ ownCells) (fun g => cellInv ER (talk (prods m)) (K g) g) ∗ bigSep barCells (fun g => reached ER g 0))

instance common_persistent (K : GSem nD τ sig → ℕ) : BI.Persistent (common m K) := by unfold common; infer_instance

theorem all_invs (K : GSem nD τ sig → ℕ) :
    bigSep (barCells ∪ ownCells) (fun g => (cellInv ER (talk (prods m)) (K g) g : sProp 𝕄)) ⊢ invs (prods m) K := by
  unfold invs
  rw [BI.bigSep_union cells_apart]
  refine sep_mono (Entails.of_eq ?_) (Entails.of_eq ?_)
  · exact bigSep_map (s := Finset.univ) barEmb (Φ := fun g => (cellInv ER (talk (prods m)) (K g) g : sProp 𝕄))
  · refine (bigSep_map (s := Finset.univ) cellEmb (Φ := fun g => (cellInv ER (talk (prods m)) (K g) g : sProp 𝕄))).trans ?_
    let e : Fin 4 × Dev nD × Dev nD ≃ Slot :=
      ⟨fun x => (x.2.1, x.1, x.2.2), fun x => (x.2.1, x.1, x.2.2), fun _ => rfl, fun _ => rfl⟩
    exact BI.bigSep_univ_equiv e (fun x => (cellInv ER (talk (prods m)) (K (cellEmb x)) (cellEmb x) : sProp 𝕄))

theorem bar_reached (K : GSem nD τ sig → ℕ) (p : Dev nD) : common m K ⊢ reached ER (barCell p) 0 := by
  unfold common
  have hp : barCell p ∈ barCells := Finset.mem_map_of_mem barEmb (Finset.mem_univ p)
  iintro ⟨-, H⟩
  iapply (sep_take (Φ := fun g : GSem nD τ sig => reached ER g 0) hp) $$ H

/-- The rights a device has towards one other. -/
theorem right (K : GSem nD τ sig → ℕ) (p : Dev nD) :
    iprop(common m K ∗ (dutyTok ER (barCell p) 0 c ∗ dutyTok ER (cell 0 c p) 0 p ∗ dutyTok ER (cell 1 p c) 0 c
      ∗ dutyTok ER (cell 2 c p) 0 p ∗ dutyTok ER (cell 3 p c) 0 c)) ⊢ rights (F := F) c p := by
  unfold rights
  iintro ⟨#Hc, Hb, H0, H1, H2, H3⟩
  isplitl [Hb]
  · isplitl [Hb]; · iexact Hb
    iapply (bar_reached m K p) $$ Hc
  isplitl [H0 H1]
  · isplitl [H0] <;> iassumption
  isplitl [H2] <;> iassumption

theorem all_rights (K : GSem nD τ sig → ℕ) : iprop(common m K ∗ tokens (F := F) c) ⊢ bigSep (Finset.univ.erase c) (rights (F := F) c) := by
  have h : iprop(common m K ∗ bigSep (Finset.univ.erase c) (fun p : Dev nD => (iprop(dutyTok ER (barCell p) 0 c ∗ dutyTok ER (cell 0 c p) 0 p ∗ dutyTok ER (cell 1 p c) 0 c
      ∗ dutyTok ER (cell 2 c p) 0 p ∗ dutyTok ER (cell 3 p c) 0 c) : sProp 𝕄))) ⊢ bigSep (Finset.univ.erase c) (rights (F := F) c) :=
    bigSep_with_persistent fun p _ => right c m K p
  refine (sep_mono_right ?_).trans h
  refine BIBase.Entails.trans ?_ (bigSep_subset (Finset.subset_univ (Finset.univ.erase c)))
  unfold tokens
  rw [bigSep_sep', bigSep_sep', bigSep_sep', bigSep_sep']

theorem ghost_made (K : GSem nD τ sig → ℕ) : iprop(common m K ∗ share (F := F) c) ⊢ iprop(∃ K, ghost m c K) := by
  unfold share ghost
  iintro ⟨#Hc, Ha, Ho, Ht⟩
  iexists K
  isplitr
  · unfold common
    icases Hc with ⟨Hi, -⟩
    iapply (all_invs m K) $$ Hi
  isplitl [Ha]; · iexact Ha
  isplitl [Ho]; · iexact Ho
  iapply (all_rights c m K)
  isplitr; · iexact Hc
  iexact Ht

/-! ## The credit -/

omit [FloatOps F] in
theorem bar_ne_cell (p q : Dev nD) (k : Fin 4) (d : Dev nD) : barCell p ≠ cell k q d := fun h => reg_ne_dma (congrArg (fun g : GSem nD τ sig => g.2) h)

theorem sum_tally {ι : Type} (S : Finset ι) (g : ι → GSem nD τ sig) (n : ℕ) (x : GSem nD τ sig) (u : Unit) :
    (∑ i ∈ S, tallyAt (g i) () n : CellTallies nD τ sig Unit) x u = ∑ i ∈ S, (tallyAt (g i) () n : CellTallies nD τ sig Unit) x u := by
  classical
  induction S using Finset.induction_on with
  | empty => rfl
  | insert a S ha ih => rw [Finset.sum_insert ha, Finset.sum_insert ha, Pi.add_apply, Finsupp.add_apply, ih]

theorem tally_at (g x : GSem nD τ sig) (n : ℕ) : (tallyAt g () n : CellTallies nD τ sig Unit) x () = if x = g then n else 0 := by
  rw [tallyAt_apply]
  by_cases h : x = g
  · rw [if_pos ⟨h, rfl⟩, if_pos h]
  · rw [if_neg fun h' => h h'.1, if_neg h]

theorem owedBar_bar (d : Dev nD) : owedBar (Finset.univ.erase d) (barCell c) () = if c = d then 0 else 1 := by
  unfold owedBar
  rw [sum_tally]
  simp only [tally_at]
  by_cases h : c = d
  · rw [if_pos h]
    exact Finset.sum_eq_zero fun p hp => if_neg fun e => Finset.ne_of_mem_erase hp ((dev_of_cell e).symm.trans h)
  · rw [if_neg h, Finset.sum_eq_single c (fun p _ hp => if_neg fun e => hp (dev_of_cell e).symm)
      (fun hc => absurd (Finset.mem_erase.mpr ⟨h, Finset.mem_univ c⟩) hc), if_pos rfl]

theorem owedBar_cell (S : Finset (Dev nD)) (k : Fin 4) (q p : Dev nD) : owedBar S (cell k q p) () = 0 := by
  unfold owedBar
  rw [sum_tally]
  exact Finset.sum_eq_zero fun d _ => by rw [tally_at, if_neg (bar_ne_cell d q k p).symm]

theorem owedAt_bar (k : Fin 4) (d : Dev nD) (S : Finset (Dev nD)) : owedAt k d S (barCell c) () = 0 := by
  unfold owedAt
  rw [sum_tally]
  exact Finset.sum_eq_zero fun p _ => by rw [tally_at, if_neg (bar_ne_cell c p k d)]

theorem cell_eq {k l : Fin 4} {a b p q : Dev nD} (h : cell k a p = cell l b q) : a = b ∧ k = l ∧ p = q := by
  have h' := osem_inj (a₁ := (k, p)) (a₂ := (l, q)) (congrArg Prod.snd h)
  exact ⟨dev_of_cell h, congrArg Prod.fst h', congrArg Prod.snd h'⟩

theorem owedAt_cell (k l : Fin 4) (d p : Dev nD) (hp : p ≠ c) :
    owedAt k d (Finset.univ.erase d) (cell l c p) () = if k = l ∧ d = p then N else 0 := by
  unfold owedAt
  rw [sum_tally]
  simp only [tally_at]
  by_cases h : k = l ∧ d = p
  · obtain ⟨rfl, rfl⟩ := h
    rw [if_pos ⟨rfl, rfl⟩, Finset.sum_eq_single c (fun q _ hq => if_neg fun e => hq (cell_eq e).1.symm)
      (fun hc => absurd (Finset.mem_erase.mpr ⟨hp.symm, Finset.mem_univ c⟩) hc), if_pos rfl]
  · rw [if_neg h]
    exact Finset.sum_eq_zero fun q _ => if_neg fun e => h ⟨(cell_eq e).2.1.symm, (cell_eq e).2.2.symm⟩

theorem owed_bar (d : Dev nD) : O₀ d (barCell c) () = if c = d then 0 else 1 := by
  unfold O₀
  rw [Pi.add_apply, Finsupp.add_apply, Pi.add_apply, Finsupp.add_apply, owedBar_bar, owedAt_bar, owedAt_bar]
  rfl

theorem owed_cell (k : Fin 4) (hk : k = 1 ∨ k = 3) (d p : Dev nD) (hp : p ≠ c) : O₀ d (cell k c p) () = if d = p then N else 0 := by
  unfold O₀
  rw [Pi.add_apply, Finsupp.add_apply, Pi.add_apply, Finsupp.add_apply, owedBar_cell, owedAt_cell c 1 k d p hp, owedAt_cell c 3 k d p hp]
  rcases hk with rfl | rfl
  · simp
  · simp

theorem credit_bar :
    tallyOn (barCell c) (launchCredit (Pipeline.owing O₀) 0 (barCell c)) = (tallyAt (barCell c) () 31 : CellTallies nD τ sig Unit) := by
  unfold tallyAt
  refine congrArg _ (Finsupp.ext fun u => ?_)
  rw [Pipeline.launchCredit_owing, Finsupp.single_eq_same, Finset.sum_congr rfl fun d _ => owed_bar c d]
  revert c
  decide

theorem credit_cell (k : Fin 4) (hk : k = 1 ∨ k = 3) (p : Dev nD) (hp : p ≠ c) :
    tallyOn (cell k c p) (launchCredit (Pipeline.owing O₀) 0 (cell k c p)) = (tallyAt (cell k c p) () N : CellTallies nD τ sig Unit) := by
  unfold tallyAt
  refine congrArg _ (Finsupp.ext fun u => ?_)
  rw [Pipeline.launchCredit_owing, Finsupp.single_eq_same, Finset.sum_congr rfl fun d _ => owed_cell c k hk d p hp,
    Finset.sum_ite_eq' Finset.univ p fun _ => N, if_pos (Finset.mem_univ _)]

/-- The semaphores of an array. -/
def famEmb (k : Fin 4) : Dev nD ↪ SemLoc sig := ⟨fun p => osem (k, p), fun _ _ h => congrArg Prod.snd (osem_inj h)⟩

theorem credits_of : (Pipeline.launchCred O₀ c : sProp 𝕄)
    ⊢ iprop(cred (tallyAt (barCell c) () 31) ∗ credits (F := F) c 1 ∗ credits (F := F) c 3) := by
  unfold Pipeline.launchCred
  rw [bigSep_univ_at _ (SemLoc.reg barSem), credit_bar]
  refine sep_mono_right ?_
  have hmem (k : Fin 4) : (Finset.univ.erase c).map (famEmb k) ⊆ (Finset.univ.erase (SemLoc.reg barSem) : Finset (SemLoc sig)) := fun s hs => by
    obtain ⟨p, -, rfl⟩ := Finset.mem_map.mp hs
    exact Finset.mem_erase.mpr ⟨fun h => reg_ne_dma h.symm, Finset.mem_univ _⟩
  have hdisj : Disjoint ((Finset.univ.erase c).map (famEmb 1)) ((Finset.univ.erase c).map (famEmb 3)) := by
    rw [Finset.disjoint_left]
    intro s h h'
    obtain ⟨p, -, rfl⟩ := Finset.mem_map.mp h
    obtain ⟨q, -, h'⟩ := Finset.mem_map.mp h'
    exact absurd (congrArg Prod.fst (osem_inj h')) (show (3 : Fin 4) ≠ 1 by decide)
  have hpart (k : Fin 4) (hk : k = 1 ∨ k = 3) : bigSep ((Finset.univ.erase c).map (famEmb k))
      (fun sm => (cred (tallyOn ((c : Thread nD τ), sm) (launchCredit (Pipeline.owing O₀) 0 ((c : Thread nD τ), sm))) : sProp 𝕄))
      = credits (F := F) c k := by
    rw [bigSep_map]
    exact bigSep_congr fun p hp => congrArg _ (credit_cell c k hk p (Finset.ne_of_mem_erase hp))
  have h := bigSep_subset (Finset.union_subset (hmem 1) (hmem 3))
    (Φ := fun sm => (cred (tallyOn ((c : Thread nD τ), sm) (launchCredit (Pipeline.owing O₀) 0 ((c : Thread nD τ), sm))) : sProp 𝕄))
  rw [BI.bigSep_union hdisj, hpart 1 (Or.inl rfl), hpart 3 (Or.inr rfl)] at h
  exact h

end Cert.KernelIdeal
-- ==== Proof.Run.lean ====
/-
The run of the whole program: it ends, its arguments are unchanged, every device holds the same result, and every
counter is back at zero.
-/
module

public import proofs.«01_k».proof.Proof.Launch

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The launch's state: the staging cells', and the exchange's. -/
def u₀ : UU :=
  (initOf (Pipeline.cells (Pipeline.pin (pcfgs (F := F)) Gen.adm) Gen.cellOf_inj) (Pipeline.launchToks (Pipeline.pin (pcfgs (F := F)) Gen.adm) Gen.cellOf_inj),
    launchOf barCells ownCells duties)

/-- The exchange's state before it is shared out: device 0 keeps all of it. -/
def kitty : sProp 𝕄 := if c = 0 then BI.own (ER (launchOf barCells ownCells duties)) else iprop(emp)

omit [FloatOps F] in
theorem kitty_all : bigSep Finset.univ (kitty (F := F)) = (BI.own (ER (launchOf barCells ownCells duties)) : sProp 𝕄) := by
  have h : bigSep (Finset.univ.erase (0 : Dev nD)) (kitty (F := F)) = (BI.emp : sProp 𝕄) := by
    rw [bigSep_congr (s := Finset.univ.erase (0 : Dev nD)) (Φ := kitty (F := F)) (Ψ := fun _ => (BI.emp : sProp 𝕄)) fun d hd => if_neg (Finset.ne_of_mem_erase hd), BI.bigSep_emp_const]
  rw [bigSep_univ_at _ (0 : Dev nD), h]
  unfold kitty
  rw [if_pos rfl]
  exact BI.equiv_iff.mp sep_emp

/-- What rides past the host's operations. -/
def riding : sProp 𝕄 := iprop((∃ r, prngReg c r) ∗ kept m c ∗ ∃ W, owes (c : Thread nD τ) (O₀ c) W)

/-- What a device has at launch beside its buffers and its part of the exchange's state. -/
def plain : sProp 𝕄 :=
  iprop((∃ r, prngReg c r) ∗ (cred (tallyAt (barCell c) () 31) ∗ credits (F := F) c 1 ∗ credits (F := F) c 3) ∗ ∃ W, owes (c : Thread nD τ) (O₀ c) W)

abbrev T₀ : sProp 𝕄 := iprop(StableHlo.held (c : Thread nD τ) (Pipeline.ucRefs τ sig) (Gen.V0 m c) ∗ riding m c)
abbrev Tₙ : sProp 𝕄 := iprop(StableHlo.held (c : Thread nD τ) (Pipeline.ucRefs τ sig) (V2 m c) ∗ semVal (barCell c) 0)

theorem started (K : GSem nD τ sig → ℕ) :
    iprop(common m K ∗ (share (F := F) c ∗ (StableHlo.held (c : Thread nD τ) (Pipeline.ucRefs τ sig) (Gen.V0 m c) ∗ plain (F := F) c))) ⊢ T₀ m c := by
  unfold T₀ riding kept plain
  iintro ⟨#Hc, Hs, Hh, Hp, ⟨H1, H2, H3⟩, HO⟩
  isplitl [Hh]; · iexact Hh
  isplitl [Hp]; · iexact Hp
  isplitr [HO]
  · isplitl [Hs]
    · iapply (ghost_made c m K)
      isplitr; · iexact Hc
      iexact Hs
    isplitl [H1]; · iexact H1
    isplitl [H2] <;> iassumption
  iexact HO

omit [FloatOps F] in
theorem bar_counter : (unscopedSems0 c : sProp 𝕄) = semVal (barCell c) 0 := by
  unfold unscopedSems0
  rw [show (Finset.univ.filter fun sm : SemLoc sig => ¬ sm.isScoped .tc = true) = {SemLoc.reg barSem} from by decide, bigSep_singleton]

theorem at_launch :
    iprop((bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ kitty (F := F) c)) ∗ levAts L lv)
      ⊢ (|={Set.univ}=> bigSep Finset.univ (T₀ m) : sProp 𝕄) := by
  have hone (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ kitty (F := F) c)
      ⊢ (iprop((StableHlo.held (c : Thread nD τ) (Pipeline.ucRefs τ sig) (Gen.V0 m c) ∗ plain (F := F) c)
          ∗ (semVal (barCell c) 0 ∗ kitty (F := F) c)) : sProp 𝕄) := by
    rw [show unscopedBufs c (fun b => m ((c.tc : Thread nD τ).loc b)) = StableHlo.held (c : Thread nD τ) (Pipeline.ucRefs τ sig) (Gen.V0 m c) from
      Pipeline.unscopedBufs_held c (Gen.V0 m c), bar_counter]
    unfold plain
    iintro ⟨Hh, Hb, HO, Hcr, Hp, Hk⟩
    isplitr [Hb Hk]
    · isplitl [Hh]; · iexact Hh
      isplitl [Hp]; · iexists _; iexact Hp
      isplitl [Hcr]; · iapply (credits_of (F := F) c) $$ Hcr
      iexists _; iexact HO
    isplitl [Hb] <;> iassumption
  have hall := each_of (F := F) Finset.univ hone
  have hval : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hpos : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep (Finset.univ : Finset (Fin 4 × Dev nD)) (fun x => (openTok ER (cell x.1 c x.2) : sProp 𝕄))) :=
    Entails.of_eq ((bigSep_map (s := Finset.univ) cellEmb (Φ := fun g : GSem nD τ sig => (openTok ER g : sProp 𝕄))).trans (bigSep_univ_prod _))
  have hkit : bigSep Finset.univ (kitty (F := F)) ⊢ BI.own (ER (launchOf barCells ownCells duties)) := Entails.of_eq (kitty_all (F := F))
  have hdut : bigSep duties (fun x => (dutyTok ER x.1 x.2.1 x.2.2 : sProp 𝕄)) ⊢ bigSep Finset.univ (fun c : Dev nD => (tokens (F := F) c)) :=
    Entails.of_eq (duties_split (F := F))
  have hend (K : GSem nD τ sig → ℕ) : iprop(common m K ∗ bigSep Finset.univ (fun c : Dev nD => iprop(share (F := F) c ∗ (StableHlo.held (c : Thread nD τ) (Pipeline.ucRefs τ sig) (Gen.V0 m c) ∗ plain (F := F) c))))
      ⊢ bigSep Finset.univ (T₀ m) := bigSep_with_persistent fun c _ => started m c K
  iintro ⟨H, -⟩
  ihave H := hall $$ H
  ihave H := (unzip Finset.univ (fun c : Dev nD => iprop(StableHlo.held (c : Thread nD τ) (Pipeline.ucRefs τ sig) (Gen.V0 m c) ∗ plain (F := F) c))
    (fun c => iprop(semVal (barCell c) 0 ∗ kitty (F := F) c))) $$ H
  icases H with ⟨HB, H⟩
  ihave H := (unzip Finset.univ (fun c : Dev nD => semVal (barCell c) 0) (kitty (F := F))) $$ H
  icases H with ⟨Hv, Hk⟩
  imod (Rounds.fund_launch ER (talk (prods m)) cells_apart (fun g _ h => h) duties) $$ [Hv Hk] with ⟨%κ, -, #Hi, #Hr, Ha, Ho, Ht⟩
  · isplitl [Hv]
    · iapply hval $$ Hv
    · iapply hkit $$ Hk
  imodintro
  iapply (hend κ)
  isplitr
  · unfold common
    isplitr; · iexact Hi
    iexact Hr
  iapply (zip Finset.univ (share (F := F)) (fun c : Dev nD => iprop(StableHlo.held (c : Thread nD τ) (Pipeline.ucRefs τ sig) (Gen.V0 m c) ∗ plain (F := F) c)))
  isplitr [HB]
  · unfold share
    iapply (zip Finset.univ (fun c : Dev nD => atPos ER (barCell c) 0 ∅ 0)
      (fun c => iprop(bigSep (Finset.univ : Finset (Fin 4 × Dev nD)) (fun x => openTok ER (cell x.1 c x.2)) ∗ tokens (F := F) c)))
    isplitl [Ha]; · iapply hpos $$ Ha
    iapply (zip Finset.univ (fun c : Dev nD => bigSep (Finset.univ : Finset (Fin 4 × Dev nD)) (fun x => openTok ER (cell x.1 c x.2))) (tokens (F := F)))
    isplitl [Ho]; · iapply hopen $$ Ho
    iapply hdut $$ Ht
  · iexact HB

/-! ## Into the region and out of it -/

theorem enters : iprop(StableHlo.held (c : Thread nD τ) (Pipeline.ucRefs τ sig) (Gen.V1 m c) ∗ riding m c) ⊢ (region m).pre c := by
  show _ ⊢ iprop(StableHlo.held (c.tc : Thread nD τ) arrs (Gen.V1 m c) ∗ (∃ r, prngReg c r) ∗ (StableHlo.held (c.tc : Thread nD τ) others (Gen.V1 m c) ∗ emp)
    ∗ kept m c ∗ ∃ Wd, owes (c.tc : Thread nD τ) (0 + O₀ c) Wd)
  rw [zero_add]
  unfold riding
  iintro ⟨Hh, Hp, Hk, HO⟩
  ihave Hh := (Entails.of_eq (StableHlo.held_sub_split (c : Thread nD τ) arrs_sub (Gen.V1 m c))) $$ Hh
  icases Hh with ⟨Ha, Hb⟩
  isplitl [Ha]; · iexact Ha
  isplitl [Hp]; · iexact Hp
  isplitl [Hb]
  · isplitl [Hb]; · iexact Hb
    iempintro
  isplitl [Hk]; · iexact Hk
  iexact HO

theorem leaves : (region m).post c ⊢ iprop(Tₙ m c ∗ ∃ W, owes (c : Thread nD τ) (0 : CellTallies nD τ sig Unit) W) := by
  show iprop(StableHlo.held (c.tc : Thread nD τ) arrs (V2 m c) ∗ (∃ r, prngReg c r) ∗ (StableHlo.held (c.tc : Thread nD τ) others (V2 m c) ∗ emp)
    ∗ semVal (barCell c) 0 ∗ ∃ Wd, owes (c.tc : Thread nD τ) 0 Wd) ⊢ _
  iintro ⟨Ha, -, ⟨Hb, -⟩, Hs, HO⟩
  isplitr [HO]
  · isplitr [Hs]
    · iapply (Entails.of_eq (StableHlo.held_sub_split (c : Thread nD τ) arrs_sub (V2 m c)).symm)
      isplitl [Ha] <;> iassumption
    iexact Hs
  iexact HO

/-! ## The run -/

theorem arg_kept (b : Ref sig .tc) (h : b ∉ Gen.hostOps0_W) (h' : (Proc.devRef .tc b : DevRef τ sig) ≠ Proc.devRef .tc main_v15) :
    V2 m c (Proc.devRef .tc b) = m ((c.tc : Thread nD τ).loc b) :=
  (V2_ne m c _ h').trans ((Gen.V1_of m c b h).trans rfl)

theorem only_bar : ∀ sm : SemLoc sig, sm.isScoped .tc = false → sm = .reg barSem := by decide

/-- What a device's final memory holds. -/
structure Final (s : MemSt nD τ sig (Elt F)) : Prop where
  arg0 : s.mem ((c.tc : Thread nD τ).loc main_arg0) = m ((c.tc : Thread nD τ).loc main_arg0)
  arg1 : s.mem ((c.tc : Thread nD τ).loc main_arg1) = m ((c.tc : Thread nD τ).loc main_arg1)
  arg2 : s.mem ((c.tc : Thread nD τ).loc main_arg2) = m ((c.tc : Thread nD τ).loc main_arg2)
  arg3 : s.mem ((c.tc : Thread nD τ).loc main_arg3) = m ((c.tc : Thread nD τ).loc main_arg3)
  arg4 : s.mem ((c.tc : Thread nD τ).loc main_arg4) = m ((c.tc : Thread nD τ).loc main_arg4)
  res : s.mem ((c.tc : Thread nD τ).loc main_v15) = result m

theorem read_off (s : MemSt nD τ sig (Elt F)) (h : ∀ b ∈ Pipeline.ucRefs τ sig, s.mem ((c : Thread nD τ).1, b) = V2 m c b) : Final m c s := by
  have hm (b : Ref sig .tc) (hb : (Proc.devRef .tc b : DevRef τ sig).isScoped = false) : Proc.devRef .tc b ∈ Pipeline.ucRefs τ sig :=
    Finset.mem_filter.mpr ⟨StableHlo.devRef_mem_tcRefs b, by simpa using hb⟩
  exact {
    arg0 := (h _ (hm main_arg0 rfl)).trans (arg_kept m c main_arg0 (by decide) (by decide))
    arg1 := (h _ (hm main_arg1 rfl)).trans (arg_kept m c main_arg1 (by decide) (by decide))
    arg2 := (h _ (hm main_arg2 rfl)).trans (arg_kept m c main_arg2 (by decide) (by decide))
    arg3 := (h _ (hm main_arg3 rfl)).trans (arg_kept m c main_arg3 (by decide) (by decide))
    arg4 := (h _ (hm main_arg4 rfl)).trans (arg_kept m c main_arg4 (by decide) (by decide))
    res := (h _ (hm main_v15 rfl)).trans (V2_out m c) }

set_option backward.isDefEq.respectTransparency.types false in
theorem run_main : θ_run defs (onTc (τ := τ) (main (F := F))) ⟨m, fun _ => 0, ρ⟩
    (fun r => (∀ c : Dev nD, Final m c r.2) ∧ r.2.sem = fun _ => 0) :=
  Pipeline.θ_run_regions_kit_dev_sems (pcfgs (F := F)) Gen.adm (dats m) () Gen.cellOf_inj EP defs₀ 𝒱₀ L lv m ρ main
    (Gen.segs m 𝒱₀ L lv (fun _ => riding m) () (dats m) (region m))
    (fun c Q => by
      rewrite [Gen.main_chain c, Seg.run_eq_chain,
        show (Gen.segs m 𝒱₀ L lv (fun _ => riding m) () (dats m) (region m) c).map Seg.prog = [
          StableHlo.seq (Gen.hostOps0 c),
          Prog.lift (.customCall (Pipeline.entry 0) ()) ] from rfl]
      dsimp (config := { failIfUnchanged := false }) only
      exact .rfl)
    (fun c => by simp only [Gen.segs, Seg.pipes_host, Seg.pipes_region, Seg.pipes_nil]; decide)
    (O₀ := O₀) (hL := L_of_ne) (G := kitty) (u₀ := u₀)
    (hu₀ := by
      unfold u₀
      rw [kitty_all]
      iintro Hu
      ihave H := (ownU_pair _ _) $$ Hu
      icases H with ⟨HP, HX⟩
      imodintro
      isplitl [HP]; · iexact HP
      iexact HX)
    (T₀ := T₀ m) (Tₙ := Tₙ m)
    (hch := fun c => ⟨.rfl, enters m c, leaves m c⟩)
    (hinit := at_launch m ρ)
    (QY := fun c s => Final m c s ∧ s.sem (barCell c) = 0)
    (hfin := fun c s' => by
      dsimp only [Tₙ]
      unfold StableHlo.held
      iintro ⟨⟨Hh, Hb⟩, HSI⟩
      icombine HSI Hb gives %hb
      ihave Hr := (pointsTo_read_all (Pipeline.ucRefs τ sig) (fun b => ((c : Thread nD τ).1, b)) (V2 m c) s') $$ [Hh HSI]
      · isplitl [Hh] <;> iassumption
      icases Hr with ⟨%h, HSI⟩
      imodintro
      isplitr
      · ipureintro
        exact ⟨read_off m c _ h, by simpa using hb⟩
      iexact HSI)
    (hQ := fun s h hs => ⟨fun c => (h c).1, sem_eq_zero hs fun c sm hsm => by
      obtain rfl := only_bar sm hsm
      exact (h c).2⟩)

end Cert.KernelIdeal
-- ==== Proof.Same.lean ====
/-
The program as printed and the program read at exact arithmetic have one text: at the machine's floats their bodies
are the same.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.ShloMosaic.TcCoe

theorem body_same (a b c d e f g h i j k l m h0 h1 h2 h3 h4 h5 h6 h7 h8) :
    Cert.Kernel.cc0__body (F := Bits) a h0 b h1 c h2 d h3 e h4 f h5 g h6 h h7 i h8 j k l m
      = Cert.KernelIdeal.cc0__body (F := Bits) a h0 b h1 c h2 d h3 e h4 f h5 g h6 h h7 i h8 j k l m := rfl

theorem bodies_same : Cert.Kernel.defs₀ (F := Bits) = Cert.KernelIdeal.defs₀ (F := Bits) := by
  unfold Cert.Kernel.defs₀ Cert.KernelIdeal.defs₀
  refine congrArg Defs.onTc ?_
  funext l x
  fin_cases l
  exact body_same ..

theorem defs_same : Cert.Kernel.defs (F := Bits) = Cert.KernelIdeal.defs (F := Bits) :=
  congrArg (Pipeline.defs (Cert.KernelIdeal.pcfgs (F := Bits))) bodies_same

end Cert.Proof
-- ==== Proof.Softmax.lean ====
/-
The arithmetic of a weighted mean: over real scores, taking the greatest off every score before the exponential changes
nothing, and the division can be done before or after the values are summed.
-/
module

public import Idealize.ShloMosaic.Lib.IdealHost

@[expose] public section

noncomputable section

namespace Cert.Proof.Softmax

open Idealize.ShloMosaic

/-- An extended real that is a real. -/
def IsReal (x : EReal) : Prop := ∃ r : ℝ, x = (r : EReal)

theorem isReal_of_ne {x : EReal} (hb : x ≠ ⊥) (ht : x ≠ ⊤) : IsReal x :=
  ⟨x.toReal, (EReal.coe_toReal ht hb).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose r hr using h
  exact ⟨∑ i ∈ s, r i, by rw [coe_sum]; exact Finset.sum_congr rfl fun i _ => hr i⟩

/-- The greatest of real scores is a real. -/
theorem isReal_fold_max {n : ℕ} (f : Fin (n + 1) → ℝ) : IsReal (Finset.univ.fold max (⊥ : EReal) fun j => (f j : EReal)) := by
  refine isReal_of_ne (fun h => ?_) (fun h => ?_)
  · have h0 : ((f 0 : ℝ) : EReal) ≤ Finset.univ.fold max (⊥ : EReal) fun j => (f j : EReal) :=
      (Finset.le_fold_max _).mpr (.inr ⟨0, Finset.mem_univ _, le_rfl⟩)
    rw [h] at h0
    exact EReal.coe_ne_bot _ (le_bot_iff.mp h0)
  · have h1 : (Finset.univ.fold max (⊥ : EReal) fun j => (f j : EReal)) < ⊤ :=
      (Finset.fold_max_lt _).mpr ⟨bot_lt_top, fun j _ => EReal.coe_lt_top _⟩
    exact h1.ne h

/-- A nonnegative real goes into a sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction with
  | empty => simp
  | insert a s ha ih =>
    rw [Finset.sum_insert ha, Finset.sum_insert ha, ← ih]
    exact EReal.right_distrib_of_nonneg_of_ne_top (EReal.coe_nonneg.mpr hc) (EReal.coe_ne_top c) _ _

/-- The mean of values under softmax weights, the weights normalised first and shifted by the greatest score, is the
    quotient of the two sums over the bare exponentials. -/
theorem mean_eq {n : ℕ} (s : Fin (n + 1) → EReal) (v : Fin (n + 1) → EReal) (hs : ∀ j, IsReal (s j)) :
    ∑ j, v j * Ideal.div (Ideal.exp (s j - Finset.univ.fold max ⊥ s))
        (∑ j', Ideal.exp (s j' - Finset.univ.fold max ⊥ s))
      = Ideal.div (∑ j, Ideal.exp (s j) * v j) (∑ j, Ideal.exp (s j)) := by
  choose r hr using hs
  obtain rfl : s = fun j => (r j : EReal) := funext hr
  obtain ⟨M, hM⟩ := isReal_fold_max r
  have hE (j) : Ideal.exp ((r j : EReal) - Finset.univ.fold max ⊥ fun j => (r j : EReal)) = ((Real.exp (r j) * Real.exp (-M) : ℝ) : EReal) := by
    rw [hM, ← EReal.coe_sub, Ideal.exp_coe, sub_eq_add_neg, Real.exp_add]
  have hZ : (0 : ℝ) < ∑ j, Real.exp (r j) := Finset.sum_pos (fun j _ => Real.exp_pos _) ⟨0, Finset.mem_univ _⟩
  have hS : (∑ j, Real.exp (r j) * Real.exp (-M)) = (∑ j, Real.exp (r j)) * Real.exp (-M) := (Finset.sum_mul ..).symm
  have hS0 : (∑ j, Real.exp (r j) * Real.exp (-M)) ≠ 0 := by
    rw [hS]; exact (mul_pos hZ (Real.exp_pos _)).ne'
  simp only [hE, Ideal.exp_coe]
  rw [← coe_sum, ← coe_sum, Ideal.div_coe hZ.ne', sum_mul_coe _ _ _ (by positivity)]
  refine Finset.sum_congr rfl fun j _ => ?_
  rw [Ideal.div_coe hS0, ← EReal.coe_mul, mul_comm ((Real.exp (r j) : ℝ) : EReal) (v j), mul_assoc (v j), ← EReal.coe_mul]
  refine congrArg (v j * ·) (congrArg _ ?_)
  rw [hS]
  have := Real.exp_pos (-M)
  field_simp

/-- A row that attends to one attends to some. -/
theorem fold_ori {ι : Type} [Fintype ι] [DecidableEq ι] (f : ι → BitVec 1) (i : ι) (h : f i = 1#1) :
    Finset.univ.fold IntOp.ori 0#1 f = 1#1 := by
  rw [← Finset.insert_erase (Finset.mem_univ i), Finset.fold_insert (Finset.notMem_erase _ _), h]
  generalize Finset.fold IntOp.ori 0#1 f (Finset.univ.erase i) = z
  revert z
  decide

/-- A sum over all columns of all devices, by device, head of the device, and column of the head. -/
theorem sum_columns (f : Fin 16384 → EReal) :
    ∑ a, f a = ∑ c : Fin 32, ∑ h : Fin 8, ∑ d : Fin 64, f ⟨(8 * c.val + h.val) * 64 + d.val, by omega⟩ := by
  have e1 : ∑ a, f a = ∑ p : Fin 32 × Fin 512, f (finProdFinEquiv p) := (Equiv.sum_comp (finProdFinEquiv (m := 32) (n := 512)) f).symm
  rw [e1, Fintype.sum_prod_type]
  refine Finset.sum_congr rfl fun c _ => ?_
  have e2 : ∑ a : Fin 512, f (finProdFinEquiv (c, a)) = ∑ p : Fin 8 × Fin 64, f (finProdFinEquiv (c, finProdFinEquiv p)) :=
    (Equiv.sum_comp (finProdFinEquiv (m := 8) (n := 64)) fun a => f (finProdFinEquiv (c, a))).symm
  rw [e2, Fintype.sum_prod_type]
  refine Finset.sum_congr rfl fun h _ => Finset.sum_congr rfl fun d _ => congrArg f (Fin.ext ?_)
  show d.val + 64 * h.val + 512 * c.val = (8 * c.val + h.val) * 64 + d.val
  omega

end Cert.Proof.Softmax

end
-- ==== Proof.Finite.lean ====
/-
What the precondition says: every entry of `x`, of the query weights and of the keys is a real number.
-/
module

public import proofs.«01_k».proof.Defs
public import proofs.«01_k».proof.Proof.Softmax
public import Idealize.ShloMosaic.Lib.ReduceAll
public import Idealize.ShloMosaic.Lib.Pointwise

@[expose] public section

noncomputable section

namespace Cert.Proof

open Idealize.ShloMosaic
open Cert.Proof.Softmax

theorem facts_kernelIdeal : Cert.Pre_finite_KernelIdeal.Facts where
  bcast_S_S2x512x768 := by decide
  reducesTo_S2x512x768_S_d0_1_2 := by decide
  h_S_ := by decide
  bcast_S_S768x512 := by decide
  reducesTo_S768x512_S_d0_1 := by decide
  bcast_S_S2x512x256x64 := by decide
  reducesTo_S2x512x256x64_S_d0_1_2_3 := by decide

theorem facts_referenceIdeal : Cert.Pre_finite_ReferenceIdeal.Facts where
  bcast_S_S2x512x768 := by decide
  reducesTo_S2x512x768_S_d0_1_2 := by decide
  h_S_ := by decide
  bcast_S_S768x16384 := by decide
  reducesTo_S768x16384_S_d0_1 := by decide
  bcast_S_S2x512x256x64 := by decide
  reducesTo_S2x512x256x64_S_d0_1_2_3 := by decide

theorem posInf : Ideal.ofBits .bf16 0x7F80#16 = (⊤ : EReal) := by
  simp [Ideal.ofBits, Ideal.ieee]

/-- A number whose magnitude is below infinity is a real. -/
theorem isReal_of_abs_lt {x : EReal} (h : max x (-x) < ⊤) : IsReal x := by
  refine isReal_of_ne (fun e => ?_) (fun e => ?_)
  · rw [e] at h; simp at h
  · rw [e] at h; simp at h

/-- The shape of a single number. -/
abbrev One : Shape := ⟨0, ![]⟩

instance : Subsingleton One.Idx := ⟨fun a b => funext fun i => i.elim0⟩

/-- If the conjunction of `|x| < ∞` over all entries is true, every entry is a real. -/
theorem isReal_of_all {s : Shape} {axes : List (Fin s.rank)} (x : FVec Ideal s .bf16) (hb : One.BroadcastsInDim s (![] : Fin 0 → Fin s.rank))
    (init : IVec One 1) (hr : s.ReducesTo axes One) (hu : 0 < One.numel) (j : One.Idx)
    (h : Host.reduce IntOp.andi (cmpf .olt (Host.absf x) (broadcastInDim s ![] hb (constant (F := Ideal) One .bf16 0x7F80#16))) init hr hu j = 1#1) (i : s.Idx) :
    IsReal (x i) := by
  have h1 : Ideal.cmp .olt (max (x i) (-(x i))) (Ideal.ofBits .bf16 0x7F80#16) = 1#1 := Host.reduce_andi_all _ init hr hu j h i
  rw [posInf] at h1
  refine isReal_of_abs_lt ?_
  by_contra hn
  simp [Ideal.cmp, hn] at h1

theorem reals (x : FVec Ideal Cert.Pre_finite_KernelIdeal.S2x512x768 .bf16) (wq : FVec Ideal Cert.Pre_finite_KernelIdeal.S768x512 .bf16)
    (k v : FVec Ideal Cert.Pre_finite_KernelIdeal.S2x512x256x64 .bf16) (wo : FVec Ideal Cert.Pre_finite_KernelIdeal.S512x768 .bf16)
    (h : @Cert.Pre_finite_KernelIdeal.fn facts_kernelIdeal Ideal _ x wq k v wo = fun _ => 1#1) :
    (∀ i, IsReal (x i)) ∧ (∀ i, IsReal (wq i)) ∧ ∀ i, IsReal (k i) := by
  have h0 := congrFun h (fun i => i.elim0)
  obtain ⟨h1, h2⟩ := IntOp.andi_eq_one.1 h0
  obtain ⟨h3, h4⟩ := IntOp.andi_eq_one.1 h1
  exact ⟨isReal_of_all _ _ _ _ _ _ h3, isReal_of_all _ _ _ _ _ _ h4, isReal_of_all _ _ _ _ _ _ h2⟩

end Cert.Proof

end
-- ==== Proof.Heads.lean ====
/-
One head's step of a device's partial product, and the eight steps of each batch as that step repeated.
-/
module

public import proofs.«01_k».proof.Proof.Reads

@[expose] public section

noncomputable section

namespace Cert.KernelIdeal

open Idealize.ShloMosaic

variable {F : FTy → Type} [FloatOps F]

theorem slices_head (h : Fin 8) : S512x512.Slices ![0, 64 * h.val] S512x64 := by
  revert h; decide

/-- The scores of head `h`, before the mask, -/
def scoreV (q : FVec F S512x512 .bf16) (h : Fin 8) (k : Vec F S1x512x1x64 .bf16) : FVec F S512x512 .f32 :=
  matmul dot_S512x64_S512x64_S512x512_1_1_0_0_n_n none (extractStridedSlice S512x64 ![0, 64 * h.val] q (slices_head h))
    (shapeCast S512x64 k Gen.facts.shapeCasts_S1x512x1x64_S512x64) (constant S512x512 .f32 0x00000000#32)
/-- the weights they give, not yet divided by their sum, -/
def weightV (s : FVec F S512x512 .f32) : FVec F S512x512 .bf16 :=
  exp (truncf .bf16 (select Gen.k0_pay3 s (broadcast S512x512 (Scalar.ofBits .f32 0xCE6E6B28#32))) Gen.facts.bitsLt_bf16_f32)
/-- the values averaged under them, -/
def meanV (w : FVec F S512x512 .bf16) (v : Vec F S1x512x1x64 .bf16) : FVec F S512x64 .bf16 :=
  truncf .bf16 (divf
    (matmul dot_S512x512_S512x64_S512x64_1_0_0_1_n_n none w (shapeCast S512x64 v Gen.facts.shapeCasts_S1x512x1x64_S512x64)
      (constant S512x64 .f32 0x00000000#32))
    (broadcastTo S512x64 (shapeCast S512x1 (multiReduction .add [1] S512 (extf .f32 w Gen.facts.bitsLt_bf16_f32) 0x00000000#32
      Gen.facts.reduces_S512x512_S512 (.inl rfl) rfl) Gen.facts.shapeCasts_S512_S512x1) Gen.facts.broadcasts_S512x1_S512x64)) Gen.facts.bitsLt_bf16_f32
/-- and the head added to the product so far. -/
def stepV (q : FVec F S512x512 .bf16) (h : Fin 8) (k v : Vec F S1x512x1x64 .bf16) (wo : Vec F S64x768 .bf16)
    (acc : FVec F S512x768 .f32) : FVec F S512x768 .f32 :=
  addf acc (matmul dot_S512x64_S64x768_S512x768_1_0_0_1_n_n none (meanV (weightV (scoreV q h k)) v)
    (shapeCast S64x768 wo Gen.facts.shapeCasts_S64x768_S64x768) (constant S512x768 .f32 0x00000000#32))

namespace Given

variable (g : Given F)

/-- The scaled queries of batch `b`. -/
def queries (b : Fin 2) : FVec F S512x512 .bf16 := Gen.k0_pay4 (g.xAt b) g.wqAll

/-- Head `h` of batch `b` added to a product. -/
def next (b : Fin 2) (h : Fin 8) (acc : FVec F S512x768 .f32) : FVec F S512x768 .f32 :=
  stepV (g.queries b) h (g.kAt b h) (g.vAt b h) (g.woAt h) acc

/-- Batch `b`'s product after the first `n` heads. -/
def upTo (b : Fin 2) : ℕ → FVec F S512x768 .f32
  | 0 => Gen.k0_pay5
  | n + 1 => if h : n < 8 then g.next b ⟨n, h⟩ (upTo b n) else upTo b n

theorem upTo_succ (b : Fin 2) (n : ℕ) (h : n < 8) : g.upTo b (n + 1) = g.next b ⟨n, h⟩ (g.upTo b n) := dif_pos h

theorem lo2_eq : g.lo2 = g.upTo 0 2 := by
  rw [g.upTo_succ 0 1 (by decide), g.upTo_succ 0 0 (by decide)]; rfl
theorem lo3_eq : g.lo3 = g.upTo 0 3 := by
  rw [g.upTo_succ 0 2 (by decide), ← lo2_eq]; rfl
theorem lo5_eq : g.lo5 = g.upTo 0 5 := by
  rw [g.upTo_succ 0 4 (by decide), g.upTo_succ 0 3 (by decide), ← lo3_eq]; rfl
theorem lo7_eq : g.lo7 = g.upTo 0 7 := by
  rw [g.upTo_succ 0 6 (by decide), g.upTo_succ 0 5 (by decide), ← lo5_eq]; rfl
theorem lo_eq : g.lo = shapeCast S512x768 (truncf .bf16 (g.upTo 0 8) Gen.facts.bitsLt_bf16_f32) Gen.facts.shapeCasts_S512x768_S512x768 := by
  rw [g.upTo_succ 0 7 (by decide), ← lo7_eq]; rfl

theorem hi1_eq : g.hi1 = g.upTo 1 1 := by
  rw [g.upTo_succ 1 0 (by decide)]; rfl
theorem hi3_eq : g.hi3 = g.upTo 1 3 := by
  rw [g.upTo_succ 1 2 (by decide), g.upTo_succ 1 1 (by decide), ← hi1_eq]; rfl
theorem hi4_eq : g.hi4 = g.upTo 1 4 := by
  rw [g.upTo_succ 1 3 (by decide), ← hi3_eq]; rfl
theorem hi6_eq : g.hi6 = g.upTo 1 6 := by
  rw [g.upTo_succ 1 5 (by decide), g.upTo_succ 1 4 (by decide), ← hi4_eq]; rfl
theorem hi_eq : g.hi = shapeCast S512x768 (truncf .bf16 (g.upTo 1 8) Gen.facts.bitsLt_bf16_f32) Gen.facts.shapeCasts_S512x768_S512x768 := by
  rw [g.upTo_succ 1 7 (by decide), g.upTo_succ 1 6 (by decide), ← hi6_eq]; rfl

end Given

end Cert.KernelIdeal
-- ==== Proof.HeadsAt.lean ====
/-
One head's step, and the product of all eight, read at a row and a column.
-/
module

public import proofs.«01_k».proof.Proof.Heads
public import proofs.«01_k».proof.Proof.Blocks
public import Idealize.ShloMosaic.Lib.Pointwise

@[expose] public section

set_option maxRecDepth 16384

noncomputable section

namespace Cert.KernelIdeal

open Idealize.ShloMosaic

/-- Whether row `i` attends to row `j`, as the programs' one-bit word. -/
def seen (i j : Fin 512) : BitVec 1 := Gen.k0_pay3 (ix2 i j)

/-- What stands for a score that is masked out. -/
abbrev masked : EReal := Ideal.ofBits .f32 0xCE6E6B28#32

theorem scoreV_apply (q : FVec Ideal S512x512 .bf16) (h : Fin 8) (k : Vec Ideal S1x512x1x64 .bf16) (i j : Fin 512) :
    scoreV q h k (ix2 i j)
      = ∑ d : Fin 64, q (ix2 i (⟨64 * h.val + d.val, by omega⟩ : Fin 512)) * k (ix4 (0 : Fin 1) j (0 : Fin 1) d) := by
  pointwise [scoreV]

theorem weightV_apply (s : FVec Ideal S512x512 .f32) (i j : Fin 512) :
    weightV s (ix2 i j) = Ideal.exp (if seen i j = 1#1 then s (ix2 i j) else masked) := by
  pointwise [weightV, seen, Scalar.select]
  rfl

theorem meanV_apply (w : FVec Ideal S512x512 .bf16) (v : Vec Ideal S1x512x1x64 .bf16) (i : Fin 512) (d : Fin 64) :
    meanV w v (ix2 i d)
      = Ideal.div (∑ j : Fin 512, w (ix2 i j) * v (ix4 (0 : Fin 1) j (0 : Fin 1) d)) (∑ j : Fin 512, w (ix2 i j)) := by
  pointwise [meanV]

theorem stepV_apply (q : FVec Ideal S512x512 .bf16) (h : Fin 8) (k v : Vec Ideal S1x512x1x64 .bf16) (wo : Vec Ideal S64x768 .bf16)
    (acc : FVec Ideal S512x768 .f32) (i : Fin 512) (n : Fin 768) :
    stepV q h k v wo acc (ix2 i n)
      = acc (ix2 i n) + ∑ d : Fin 64, meanV (weightV (scoreV q h k)) v (ix2 i d) * wo (ix2 d n) := by
  pointwise [stepV]

namespace Given

variable (g : Given Ideal)

theorem xAt_apply (b : Fin 2) (i : Fin 512) (e : Fin 768) : g.xAt b (ix3 (0 : Fin 1) i e) = g.x (ix3 b i e) := by
  refine congrArg g.x (funext fun a => Fin.ext ?_)
  match a with
  | ⟨0, _⟩ => show b.val + 1 * 0 = b.val; omega
  | ⟨1, _⟩ => show 0 + 1 * i.val = i.val; omega
  | ⟨2, _⟩ => show 0 + 1 * e.val = e.val; omega

theorem wqAll_apply (e : Fin 768) (a : Fin 512) : g.wqAll (ix2 e a) = g.wq (ix2 e a) := by
  refine congrArg g.wq (funext fun a' => Fin.ext ?_)
  match a' with
  | ⟨0, _⟩ => show 0 + 1 * e.val = e.val; omega
  | ⟨1, _⟩ => show 0 + 1 * a.val = a.val; omega

theorem head_ix (b : Fin 2) (h : Fin 8) (j : Fin 512) (d : Fin 64) :
    (Rect.unit (s := S2x512x8x64) ![b.val, 0, h.val, 0] S1x512x1x64.size (inbK b h)).toLoadRect.idx (ix4 (0 : Fin 1) j (0 : Fin 1) d)
      = ix4 b j h d := by
  refine funext fun a => Fin.ext ?_
  match a with
  | ⟨0, _⟩ => show b.val + 1 * 0 = b.val; omega
  | ⟨1, _⟩ => show 0 + 1 * j.val = j.val; omega
  | ⟨2, _⟩ => show h.val + 1 * 0 = h.val; omega
  | ⟨3, _⟩ => show 0 + 1 * d.val = d.val; omega

theorem kAt_apply (b : Fin 2) (h : Fin 8) (j : Fin 512) (d : Fin 64) :
    g.kAt b h (ix4 (0 : Fin 1) j (0 : Fin 1) d) = g.k (ix4 b j h d) := congrArg g.k (head_ix b h j d)

theorem vAt_apply (b : Fin 2) (h : Fin 8) (j : Fin 512) (d : Fin 64) :
    g.vAt b h (ix4 (0 : Fin 1) j (0 : Fin 1) d) = g.v (ix4 b j h d) := congrArg g.v (head_ix b h j d)

theorem woAt_apply (h : Fin 8) (d : Fin 64) (n : Fin 768) :
    g.woAt h (ix2 d n) = g.wo (ix2 (⟨64 * h.val + d.val, by omega⟩ : Fin 512) n) := by
  refine congrArg g.wo (funext fun a => Fin.ext ?_)
  match a with
  | ⟨0, _⟩ => show 64 * h.val + 1 * d.val = 64 * h.val + d.val; omega
  | ⟨1, _⟩ => show 0 + 1 * n.val = n.val; omega

/-! The same arrays, as arrays of extended reals. -/

abbrev xv : FVec Ideal S2x512x768 .bf16 := g.x
abbrev wqv : FVec Ideal S768x512 .bf16 := g.wq
abbrev kv : FVec Ideal S2x512x8x64 .bf16 := g.k
abbrev vv : FVec Ideal S2x512x8x64 .bf16 := g.v
abbrev wov : FVec Ideal S512x768 .bf16 := g.wo

theorem queries_apply (b : Fin 2) (i a : Fin 512) :
    g.queries b (ix2 i a) = (∑ e : Fin 768, g.xv (ix3 b i e) * g.wqv (ix2 e a)) * Ideal.ofBits .f32 0x3E000000#32 := by
  pointwise [queries, Gen.k0_pay4, xAt_apply, wqAll_apply]

/-- The score of row `j` for row `i`, by head `h` of batch `b`, -/
def scoreAt (b : Fin 2) (h : Fin 8) (i j : Fin 512) : EReal :=
  if seen i j = 1#1 then
    ∑ d : Fin 64, ((∑ e : Fin 768, g.xv (ix3 b i e) * g.wqv (ix2 e (⟨64 * h.val + d.val, by omega⟩ : Fin 512))) * Ideal.ofBits .f32 0x3E000000#32)
      * g.kv (ix4 b j h d)
  else masked
/-- and the values averaged by the exponentials of the scores. -/
def meanAt (b : Fin 2) (h : Fin 8) (i : Fin 512) (d : Fin 64) : EReal :=
  Ideal.div (∑ j : Fin 512, Ideal.exp (g.scoreAt b h i j) * g.vv (ix4 b j h d)) (∑ j : Fin 512, Ideal.exp (g.scoreAt b h i j))

theorem next_apply (b : Fin 2) (h : Fin 8) (acc : FVec Ideal S512x768 .f32) (i : Fin 512) (n : Fin 768) :
    g.next b h acc (ix2 i n)
      = acc (ix2 i n) + ∑ d : Fin 64, g.meanAt b h i d * g.wov (ix2 (⟨64 * h.val + d.val, by omega⟩ : Fin 512) n) := by
  have hw : ∀ j, weightV (scoreV (g.queries b) h (g.kAt b h)) (ix2 i j) = Ideal.exp (g.scoreAt b h i j) := fun j => by
    rw [weightV_apply, scoreV_apply]
    simp only [queries_apply, kAt_apply]
    rfl
  unfold next
  rw [stepV_apply]
  simp only [meanV_apply, hw, vAt_apply, woAt_apply]
  rfl

theorem upTo_apply (b : Fin 2) (i : Fin 512) (n : Fin 768) :
    g.upTo b 8 (ix2 i n)
      = ∑ h : Fin 8, ∑ d : Fin 64, g.meanAt b h i d * g.wov (ix2 (⟨64 * h.val + d.val, by omega⟩ : Fin 512) n) := by
  have hz : g.upTo b 0 (ix2 i n) = 0 := by
    show Ideal.ofBits .f32 0x00000000#32 = 0
    exact Ideal.ofBits_zero_f32
  have hs : ∀ k (hk : k ≤ 8), g.upTo b k (ix2 i n) = ∑ h : Fin k, ∑ d : Fin 64,
      g.meanAt b (h.castLE hk) i d * g.wov (ix2 (⟨64 * h.val + d.val, by omega⟩ : Fin 512) n) := by
    intro k
    induction k with
    | zero => intro _; rw [hz]; rfl
    | succ k ih =>
      intro hk
      rw [g.upTo_succ b k hk, next_apply, ih (Nat.le_of_succ_le hk)]
      exact (Fin.sum_univ_castSucc (fun h : Fin (k + 1) => ∑ d : Fin 64,
        g.meanAt b (h.castLE hk) i d * g.wov (ix2 (⟨64 * h.val + d.val, by omega⟩ : Fin 512) n))).symm
  exact hs 8 (le_refl 8)

end Given

/-- Row `i` of batch `b`'s half of a device's partial product. -/
theorem prod_apply (g : Given Ideal) (b : Fin 2) (i : Fin 512) (n : Fin 768) :
    prod g (halfIx b (ix2 i n))
      = ∑ h : Fin 8, ∑ d : Fin 64, g.meanAt b h i d * g.wov (ix2 (⟨64 * h.val + d.val, by omega⟩ : Fin 512) n) := by
  rw [← g.upTo_apply b i n]
  have hi : ∀ q, (⟨(512 * q + i.val) % 512, Nat.mod_lt _ (by decide)⟩ : Fin 512) = i := fun q => Fin.ext (by show _ % 512 = i.val; omega)
  fin_cases b
  · show (if (512 * 0 + i.val) / 512 = 0 then _ else _) = _
    rw [if_pos (by omega), g.lo_eq, shapeCast_id]
    exact congrArg (fun r => g.upTo 0 8 (ix2 r n)) (hi 0)
  · show (if (512 * 1 + i.val) / 512 = 0 then _ else _) = _
    rw [if_neg (by omega), g.hi_eq, shapeCast_id]
    exact congrArg (fun r => g.upTo 1 8 (ix2 r n)) (hi 1)

end Cert.KernelIdeal
-- ==== Proof.ResultAt.lean ====
/-
The result of the kernel at a row and a column: the sum over the devices of their partial products.
-/
module

public import proofs.«01_k».proof.Proof.HeadsAt
public import proofs.«01_k».proof.Proof.Obligation

@[expose] public section

set_option maxRecDepth 16384

noncomputable section

namespace Cert.KernelIdeal

open Idealize.ShloMosaic

theorem outV_apply (R : S1024x768.Idx → EReal) (b : Fin 2) (i : Fin 512) (n : Fin 768) :
    outV (F := Ideal) R (ix3 b i n) = R (halfIx b (ix2 i n)) := by
  show Gen.k0_pay1 (F := Ideal) (fun x => R (halfIx b x)) (ix3 (0 : Fin 1) i n) = _
  pointwise [Gen.k0_pay1]

theorem red_apply (v : FVec Ideal S32x32x768 .bf16) (r : Fin 32) (n : Fin 768) :
    Gen.k0_pay34 v (ix2 r n) = ∑ p : Fin 32, v (ix3 p r n) := by
  pointwise [Gen.k0_pay34]

/-- The rows every device is left with: those of the sum of all the partial products. -/
theorem total_apply (A : Dev nD → S1024x768.Idx → EReal) (i : S1024x768.Idx) :
    total (F := Ideal) A i = ∑ p : Fin 32, A p i := by
  have hr : rowIn i = ix2 (n0 := 32) (n1 := 768) (rowIn i 0) (rowIn i 1) := eq_ix2 _
  show Gen.k0_pay34 (F := Ideal) (gath A (rowOwner i)) (rowIn i) = _
  refine ((congrArg _ hr).trans (red_apply _ _ _)).trans ?_
  refine Finset.sum_congr rfl fun p _ => ?_
  show A p (rowIx (rowOwner i) _) = A p i
  exact congrArg (A p) (rowIx_eta i)

variable (m : (ℓ : Loc nD τ sig) → Buf (Elt Ideal) ℓ)

/-- The result, as an array of extended reals. -/
abbrev resultV : FVec Ideal S2x512x768 .f32 := result m

theorem result_apply (b : Fin 2) (i : Fin 512) (n : Fin 768) :
    resultV m (ix3 b i n) = ∑ c : Fin 32, ∑ h : Fin 8, ∑ d : Fin 64,
      (given m c).meanAt b h i d * (given m c).wov (ix2 (⟨64 * h.val + d.val, by omega⟩ : Fin 512) n) := by
  refine ((outV_apply _ b i n).trans (total_apply _ _)).trans ?_
  exact Finset.sum_congr (M := EReal) rfl fun c _ => prod_apply _ b i n

/-! ## The heads a device is given -/

/-- Head `h` of device `c` among all the heads. -/
def headOf (c : Fin 32) (h : Fin 8) : Fin 256 := ⟨8 * c.val + h.val, by omega⟩

theorem x_given (c : Dev nD) : (given m c).xv = m ((c.tc : Thread nD τ).loc main_arg0) := by
  show StableHlo.after _ _ _ = _
  after_results_simp
theorem wq_given (c : Dev nD) : (given m c).wqv = m ((c.tc : Thread nD τ).loc main_arg1) := by
  show StableHlo.after _ _ _ = _
  after_results_simp
theorem wo_given (c : Dev nD) : (given m c).wov = m ((c.tc : Thread nD τ).loc main_arg4) := by
  show StableHlo.after _ _ _ = _
  after_results_simp

/-- A slice of eight heads starting at device `c`'s first. -/
theorem slice_apply (x : FVec Ideal S2x512x256x64 .bf16) (c : Fin 32) (start : Fin 4 → Int) (h)
    (h0 : start 0 = 0) (h1 : start 1 = 0) (h2 : start 2 = 8 * c.val) (h3 : start 3 = 0)
    (b : Fin 2) (j : Fin 512) (hd : Fin 8) (d : Fin 64) :
    Host.dynamicSlice S2x512x8x64 x start h (ix4 b j hd d) = x (ix4 b j (headOf c hd) d) := by
  refine congrArg x (funext fun a => Fin.ext ?_)
  match a with
  | ⟨0, _⟩ => show (min (max (start 0) 0) (((2 - 2 : ℕ)) : Int)).toNat + b.val = b.val; rw [h0]; omega
  | ⟨1, _⟩ => show (min (max (start 1) 0) (((512 - 512 : ℕ)) : Int)).toNat + j.val = j.val; rw [h1]; omega
  | ⟨2, _⟩ => show (min (max (start 2) 0) (((256 - 8 : ℕ)) : Int)).toNat + hd.val = 8 * c.val + hd.val; rw [h2]; omega
  | ⟨3, _⟩ => show (min (max (start 3) 0) (((64 - 64 : ℕ)) : Int)).toNat + d.val = d.val; rw [h3]; omega

theorem k_given (c : Dev nD) (b : Fin 2) (j : Fin 512) (h : Fin 8) (d : Fin 64) :
    (given m c).kv (ix4 b j h d) = (m ((c.tc : Thread nD τ).loc main_arg2) : FVec Ideal S2x512x256x64 .bf16) (ix4 b j (headOf c h) d) := by
  show (StableHlo.after (Gen.hostOps0 c) (Gen.V0 m c) (Proc.tc.devRef main_v9) : FVec Ideal S2x512x8x64 .bf16) (ix4 b j h d) = _
  after_results_simp
  refine slice_apply (m ((c.tc : Thread nD τ).loc main_arg2)) c _ _ ?_ ?_ ?_ ?_ b j h d
  · simp only [Matrix.cons_val, cast_eq]
    after_results_simp
    rfl
  · simp only [Matrix.cons_val, cast_eq]
    after_results_simp
    rfl
  · simp only [Matrix.cons_val, cast_eq]
    after_results_simp
    revert c
    decide +kernel
  · simp only [Matrix.cons_val, cast_eq]
    after_results_simp
    rfl

theorem v_given (c : Dev nD) (b : Fin 2) (j : Fin 512) (h : Fin 8) (d : Fin 64) :
    (given m c).vv (ix4 b j h d) = (m ((c.tc : Thread nD τ).loc main_arg3) : FVec Ideal S2x512x256x64 .bf16) (ix4 b j (headOf c h) d) := by
  show (StableHlo.after (Gen.hostOps0 c) (Gen.V0 m c) (Proc.tc.devRef main_v14) : FVec Ideal S2x512x8x64 .bf16) (ix4 b j h d) = _
  after_results_simp
  refine slice_apply (m ((c.tc : Thread nD τ).loc main_arg3)) c _ _ ?_ ?_ ?_ ?_ b j h d
  · simp only [Matrix.cons_val, cast_eq]
    after_results_simp
    rfl
  · simp only [Matrix.cons_val, cast_eq]
    after_results_simp
    rfl
  · simp only [Matrix.cons_val, cast_eq]
    after_results_simp
    revert c
    decide +kernel
  · simp only [Matrix.cons_val, cast_eq]
    after_results_simp
    rfl

end Cert.KernelIdeal
-- ==== Proof.RefAt.lean ====
/-
The reference's result at a row and a column, stage by stage.
-/
module

public import proofs.«01_k».proof.Proof.Gen.ReferenceIdeal.Run
public import Idealize.ShloMosaic.Lib.Pointwise

@[expose] public section

set_option maxRecDepth 16384

noncomputable section

namespace Cert.ReferenceIdeal

open Idealize.ShloMosaic
open Cert.ReferenceIdeal.Gen

/-- Which rows attend to which. -/
def maskV : IVec S512x512 1 :=
  ori (cmpi .sle (absi (subi
      (broadcastInDim S512x512 ![0, 1] bcast_S512x1_S512x512_0_1 (broadcastInDim S512x1 ![0] bcast_S512_S512x1_0 (iotaInDim S512 32 0)))
      (broadcastInDim S512x512 ![0, 1] bcast_S1x512_S512x512_0_1 (broadcastInDim S1x512 ![1] bcast_S512_S1x512_1 (iotaInDim S512 32 0)))))
      (broadcastInDim S512x512 ![] bcast_S_S512x512 (constantI S_ 32 128#32)))
    (ori (broadcastInDim S512x512 ![0, 1] bcast_S1x512_S512x512_0_1
        (cmpi .slt (broadcastInDim S1x512 ![1] bcast_S512_S1x512_1 (iotaInDim S512 32 0)) (broadcastInDim S1x512 ![] bcast_S_S1x512 (constantI S_ 32 32#32))))
      (broadcastInDim S512x512 ![0, 1] bcast_S512x1_S512x512_0_1
        (cmpi .slt (broadcastInDim S512x1 ![0] bcast_S512_S512x1_0 (iotaInDim S512 32 0)) (broadcastInDim S512x1 ![] bcast_S_S512x1 (constantI S_ 32 32#32)))))

/-- Whether a row attends to any. -/
def keepV : IVec S512 1 := Host.reduce IntOp.ori maskV (constantI S_ 1 0#1) reducesTo_S512x512_S512_d1 h_S_

variable (x : FVec Ideal S2x512x768 .bf16) (wq : FVec Ideal S768x16384 .bf16) (k v : FVec Ideal S2x512x256x64 .bf16)
  (wo : FVec Ideal S16384x768 .bf16)

/-- The queries of every head. -/
def queriesV : FVec Ideal S2x512x256x64 .f32 :=
  shapeCast _ (Host.dotGeneral dot_S2x512x768_S768x16384_S2x512x16384_2_0_01_1_n_n none (extf .f32 x bitsLt_bf16_f32) (extf .f32 wq bitsLt_bf16_f32))
    shapeCasts_S2x512x16384_S2x512x256x64

/-- The scores, scaled and masked. -/
def scoresV : FVec Ideal S2x256x512x512 .f32 :=
  select (broadcastInDim S2x256x512x512 ![0, 1, 2, 3] bcast_S1x1x512x512_S2x256x512x512_0_1_2_3
      (broadcastInDim S1x1x512x512 ![2, 3] bcast_S512x512_S1x1x512x512_2_3 maskV))
    (mulf (Host.dotGeneral dot_S2x512x256x64_S2x512x256x64_S2x256x512x512_3_3_1_1_02_02 none (queriesV x wq) (extf .f32 k bitsLt_bf16_f32))
      (broadcastInDim S2x256x512x512 ![] bcast_S_S2x256x512x512 (constant S_ .f32 0x3E000000#32)))
    (broadcastInDim S2x256x512x512 ![] bcast_S_S2x256x512x512 (id (constant S_ .f32 0xCE6E6B28#32)))

/-- The exponentials of the scores less the greatest of their row. -/
def expsV (s : FVec Ideal S2x256x512x512 .f32) : FVec Ideal S2x256x512x512 .f32 :=
  Host.exp (subf s (broadcastInDim S2x256x512x512 ![0, 1, 2, 3] bcast_S2x256x512x1_S2x256x512x512_0_1_2_3
    (broadcastInDim S2x256x512x1 ![0, 1, 2] bcast_S2x256x512_S2x256x512x1_0_1_2
      (Host.reduce FloatOps.maximumf s (constant S_ .f32 0xFF800000#32) reducesTo_S2x256x512x512_S2x256x512_d3 h_S_))))

/-- The exponentials over the sum of their row, and nought in a row that attends to none. -/
def weightsV (e : FVec Ideal S2x256x512x512 .f32) : FVec Ideal S2x256x512x512 .f32 :=
  select (broadcastInDim S2x256x512x512 ![0, 1, 2, 3] bcast_S1x1x512x1_S2x256x512x512_0_1_2_3
      (broadcastInDim S1x1x512x1 ![2] bcast_S512_S1x1x512x1_2 keepV))
    (Host.divf e (broadcastInDim S2x256x512x512 ![0, 1, 2, 3] bcast_S2x256x512x1_S2x256x512x512_0_1_2_3
      (select (broadcastInDim S2x256x512x1 ![0, 1, 2, 3] bcast_S1x1x512x1_S2x256x512x1_0_1_2_3
          (broadcastInDim S1x1x512x1 ![2] bcast_S512_S1x1x512x1_2 keepV))
        (broadcastInDim S2x256x512x1 ![0, 1, 2] bcast_S2x256x512_S2x256x512x1_0_1_2
          (Host.reduceAdd e (constant S_ .f32 0x00000000#32) reducesTo_S2x256x512x512_S2x256x512_d3 h_S_))
        (broadcastInDim S2x256x512x1 ![] bcast_S_S2x256x512x1 (id (constant S_ .f32 0x3F800000#32))))))
    (broadcastInDim S2x256x512x512 ![] bcast_S_S2x256x512x512 (id (constant S_ .f32 0x00000000#32)))

/-- The means of the values under the weights. -/
def meansV (w : FVec Ideal S2x256x512x512 .f32) : FVec Ideal S2x512x16384 .f32 :=
  shapeCast _ (transpose S2x512x256x64 [0, 3, 1, 2]
      (Host.dotGeneral dot_S2x512x256x64_S2x256x512x512_S2x256x64x512_1_3_3_2_02_01 none (extf .f32 v bitsLt_bf16_f32) w)
      transposes_S2x256x64x512_S2x512x256x64_0_3_1_2)
    shapeCasts_S2x512x256x64_S2x512x16384

/-- The reference's result, of its five arguments. -/
def attnV : FVec Ideal S2x512x768 .f32 :=
  Host.dotGeneral dot_S2x512x16384_S16384x768_S2x512x768_2_0_01_1_n_n none (meansV v (weightsV (expsV (scoresV x wq k))))
    (extf .f32 wo bitsLt_bf16_f32)

theorem res_eq (m : (ℓ : Loc nD τ sig) → Buf (Elt Ideal) ℓ) (c : Dev nD) :
    Value.res_main_v47 m c
      = attnV (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Value.res_main_v47
  rfl

theorem queriesV_apply (b : Fin 2) (i : Fin 512) (h : Fin 256) (d : Fin 64) :
    queriesV x wq (ix4 b i h d) = ∑ e : Fin 768, x (ix3 b i e) * wq (ix2 e (⟨h.val * 64 + d.val, by omega⟩ : Fin 16384)) := by
  pointwise [queriesV]

theorem scoresV_apply (b : Fin 2) (h : Fin 256) (i j : Fin 512) :
    scoresV x wq k (ix4 b h i j)
      = if maskV (ix2 i j) = 1#1 then (∑ d : Fin 64, queriesV x wq (ix4 b i h d) * k (ix4 b j h d)) * Ideal.ofBits .f32 0x3E000000#32
        else Ideal.ofBits .f32 0xCE6E6B28#32 := by
  pointwise [scoresV, Scalar.select]
  rfl

theorem negInf : Ideal.ofBits .f32 0xFF800000#32 = (⊥ : EReal) := by
  simp [Ideal.ofBits, Ideal.ieee]

theorem expsV_apply (s : FVec Ideal S2x256x512x512 .f32) (b : Fin 2) (h : Fin 256) (i j : Fin 512) :
    expsV s (ix4 b h i j)
      = Ideal.exp (s (ix4 b h i j) - Finset.univ.fold max (⊥ : EReal) fun j' : Fin 512 => s (ix4 b h i j')) := by
  pointwise [expsV]
  rw [negInf]

theorem weightsV_apply (e : FVec Ideal S2x256x512x512 .f32) (b : Fin 2) (h : Fin 256) (i j : Fin 512) (hk : keepV (ix1 i) = 1#1) :
    weightsV e (ix4 b h i j) = Ideal.div (e (ix4 b h i j)) (∑ j' : Fin 512, e (ix4 b h i j')) := by
  pointwise [weightsV, Scalar.select]
  exact (if_pos hk).trans (congrArg (Ideal.div _) (if_pos hk))

theorem meansV_apply (w : FVec Ideal S2x256x512x512 .f32) (b : Fin 2) (i : Fin 512) (h : Fin 256) (d : Fin 64) :
    meansV v w (ix3 b i (⟨h.val * 64 + d.val, by omega⟩ : Fin 16384)) = ∑ j : Fin 512, v (ix4 b j h d) * w (ix4 b h i j) := by
  pointwise [meansV]

theorem attnV_apply (b : Fin 2) (i : Fin 512) (n : Fin 768) :
    attnV x wq k v wo (ix3 b i n)
      = ∑ a : Fin 16384, meansV v (weightsV (expsV (scoresV x wq k))) (ix3 b i a) * wo (ix2 a n) := by
  pointwise [attnV]

theorem keepV_apply (i : Fin 512) : keepV (ix1 i) = Finset.univ.fold IntOp.ori 0#1 fun j : Fin 512 => maskV (ix2 i j) := by
  pointwise [keepV]

end Cert.ReferenceIdeal

end
-- ==== Proof.Attention.lean ====
/-
The kernel's result is the reference's: head by head the same scores, the same weighted means, and the same sum over all
columns of the output weights, which the devices hold in blocks.
-/
module

public import proofs.«01_k».proof.Proof.ResultAt
public import proofs.«01_k».proof.Proof.RefAt
public import proofs.«01_k».proof.Proof.Softmax

@[expose] public section

set_option maxRecDepth 16384

noncomputable section

namespace Cert.Proof

open Idealize.ShloMosaic Idealize.ShloMosaic.TcCoe
open Cert.Proof.Softmax
open Cert.KernelIdeal (given resultV headOf seen masked)

theorem isReal_eighth : IsReal (Ideal.ofBits .f32 0x3E000000#32) :=
  isReal_of_ne (by simp [Ideal.ofBits, Ideal.ieee, -EReal.coe_mul]) (by simp [Ideal.ofBits, Ideal.ieee, -EReal.coe_mul])

theorem isReal_masked : IsReal masked :=
  isReal_of_ne (by simp [Ideal.ofBits, Ideal.ieee, -EReal.coe_mul]) (by simp [Ideal.ofBits, Ideal.ieee, -EReal.coe_mul])

/-- Scaling every query is scaling the score, of reals. -/
theorem scale_eq {n : ℕ} (q k : Fin n → EReal) (t : EReal) (hq : ∀ d, IsReal (q d)) (hk : ∀ d, IsReal (k d)) (ht : IsReal t) :
    ∑ d, (q d * t) * k d = (∑ d, q d * k d) * t := by
  choose q' hq using hq
  choose k' hk using hk
  obtain ⟨t', rfl⟩ := ht
  simp only [hq, hk, ← EReal.coe_mul, ← coe_sum]
  refine congrArg _ ?_
  rw [Finset.sum_mul]
  exact Finset.sum_congr rfl fun d _ => by ring

/-- The two programs mask the same scores. -/
theorem seen_eq (i j : Fin 512) : seen i j = Cert.ReferenceIdeal.maskV (ix2 i j) := by
  unfold seen
  pointwise [Cert.KernelIdeal.Gen.k0_pay3, Cert.ReferenceIdeal.maskV]
  exact BitVec.or_assoc _ _ _

/-- Every row attends to the first. -/
theorem keep_eq (i : Fin 512) : Cert.ReferenceIdeal.keepV (ix1 i) = 1#1 := by
  rw [Cert.ReferenceIdeal.keepV_apply]
  refine fold_ori _ 0 ?_
  pointwise [Cert.ReferenceIdeal.maskV]
  rw [show IntOp.cmpi CmpIPredicate.slt 0#32 32#32 = 1#1 by decide]
  generalize IntOp.cmpi CmpIPredicate.sle _ _ = a, IntOp.cmpi CmpIPredicate.slt _ _ = z
  revert a z
  decide

section

variable (m : (ℓ : Loc Cert.KernelIdeal.nD Cert.KernelIdeal.τ Cert.KernelIdeal.sig) → Buf (Elt Ideal) ℓ)
  (x : FVec Ideal Cert.ReferenceIdeal.S2x512x768 .bf16) (wq : FVec Ideal Cert.ReferenceIdeal.S768x16384 .bf16)
  (k v : FVec Ideal Cert.ReferenceIdeal.S2x512x256x64 .bf16) (wo : FVec Ideal Cert.ReferenceIdeal.S16384x768 .bf16)

/-- The devices hold the reference's arguments: the query weights by columns, the output weights by rows, the rest whole. -/
structure Held : Prop where
  x_eq : ∀ c b i e, (given m c).xv (ix3 b i e) = x (ix3 b i e)
  wq_eq : ∀ (c : Fin 32) (e : Fin 768) (h : Fin 8) (d : Fin 64), (given m c).wqv (ix2 e (⟨64 * h.val + d.val, by omega⟩ : Fin 512))
    = wq (ix2 e (⟨(headOf c h).val * 64 + d.val, by have := (headOf c h).isLt; omega⟩ : Fin 16384))
  k_eq : ∀ c b j h d, (given m c).kv (ix4 b j h d) = k (ix4 b j (headOf c h) d)
  v_eq : ∀ c b j h d, (given m c).vv (ix4 b j h d) = v (ix4 b j (headOf c h) d)
  wo_eq : ∀ (c : Fin 32) (h : Fin 8) (d : Fin 64) (n : Fin 768), (given m c).wov (ix2 (⟨64 * h.val + d.val, by omega⟩ : Fin 512) n)
    = wo (ix2 (⟨(headOf c h).val * 64 + d.val, by have := (headOf c h).isLt; omega⟩ : Fin 16384) n)
  x_real : ∀ c i, IsReal ((given m c).xv i)
  wq_real : ∀ c i, IsReal ((given m c).wqv i)
  k_real : ∀ c i, IsReal ((given m c).kv i)

variable {m x wq k v wo} (H : Held m x wq k v wo)
include H

theorem score_eq (c : Fin 32) (b : Fin 2) (h : Fin 8) (i j : Fin 512) :
    (given m c).scoreAt b h i j = Cert.ReferenceIdeal.scoresV x wq k (ix4 b (headOf c h) i j) := by
  rw [Cert.ReferenceIdeal.scoresV_apply, ← seen_eq]
  unfold Cert.KernelIdeal.Given.scoreAt
  refine if_congr Iff.rfl ?_ rfl
  rw [scale_eq _ _ _ (fun d => IsReal.sum _ fun e => (H.x_real c _).mul (H.wq_real c _)) (fun d => H.k_real c _) isReal_eighth]
  refine congrArg (· * _) (Finset.sum_congr rfl fun d _ => ?_)
  rw [Cert.ReferenceIdeal.queriesV_apply, H.k_eq]
  refine congrArg (· * _) (Finset.sum_congr rfl fun e _ => ?_)
  rw [H.x_eq, H.wq_eq]

theorem score_real (c : Fin 32) (b : Fin 2) (h : Fin 8) (i j : Fin 512) : IsReal ((given m c).scoreAt b h i j) := by
  unfold Cert.KernelIdeal.Given.scoreAt
  split
  · exact IsReal.sum _ fun d => ((IsReal.sum _ fun e => (H.x_real c _).mul (H.wq_real c _)).mul isReal_eighth).mul (H.k_real c _)
  · exact isReal_masked

theorem means_eq (c : Fin 32) (b : Fin 2) (h : Fin 8) (i : Fin 512) (d : Fin 64) :
    (given m c).meanAt b h i d
      = Cert.ReferenceIdeal.meansV v (Cert.ReferenceIdeal.weightsV (Cert.ReferenceIdeal.expsV (Cert.ReferenceIdeal.scoresV x wq k)))
          (ix3 b i (⟨(headOf c h).val * 64 + d.val, by have := (headOf c h).isLt; omega⟩ : Fin 16384)) := by
  rw [Cert.ReferenceIdeal.meansV_apply]
  simp only [Cert.ReferenceIdeal.weightsV_apply _ _ _ _ _ (keep_eq i), Cert.ReferenceIdeal.expsV_apply, ← score_eq H, ← H.v_eq]
  exact (mean_eq (fun j => (given m c).scoreAt b h i j) (fun j => (given m c).vv (ix4 b j h d)) fun j => score_real H c b h i j).symm

/-- The kernel's result is the reference's. -/
theorem result_eq : resultV m = Cert.ReferenceIdeal.attnV x wq k v wo := by
  suffices hp : ∀ (b : Fin 2) (i : Fin 512) (n : Fin 768), resultV m (ix3 b i n) = Cert.ReferenceIdeal.attnV x wq k v wo (ix3 b i n) by
    funext p
    rw [eq_ix3 p]
    exact hp _ _ _
  intro b i n
  rw [Cert.KernelIdeal.result_apply, Cert.ReferenceIdeal.attnV_apply, sum_columns]
  refine Finset.sum_congr rfl fun c _ => Finset.sum_congr rfl fun h _ => Finset.sum_congr rfl fun d _ => ?_
  rw [means_eq H, H.wo_eq]
  rfl

end

end Cert.Proof

end
-- ==== Proof.lean ====
/-
The certificate: the kernel runs to its end on every device and leaves its arguments and counters as they were, as
printed and at exact arithmetic, and so does the reference; and at exact arithmetic, of real inputs, every device ends
with the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Finite
public import proofs.«01_k».proof.Proof.Attention

@[expose] public section

noncomputable section

namespace Cert.Proof

open Idealize.ShloMosaic Idealize.ShloMosaic.TcCoe
open Idealize.SL Idealize.SL.Sem

/-- The run at any floats, in the claims' words. -/
theorem frame_at {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono
    (fun _ h => ⟨fun c => ⟨(h.1 c).arg0, (h.1 c).arg1, (h.1 c).arg2, (h.1 c).arg3, (h.1 c).arg4⟩, h.2⟩)
    (Cert.KernelIdeal.run_main (F := F) m ρ)

theorem frame_kernelIdeal : Cert.quiescent_KernelIdeal := fun m ρ _ => frame_at (F := Ideal) m ρ

/-- The program as printed has the same text, so the same run, at the machine's floats. -/
theorem frame_kernel : Cert.quiescent_Kernel := fun m ρ _ => by
  rw [defs_same]
  exact frame_at (F := Bits) m ρ

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves_kernel : Cert.preserves_Kernel_KernelIdeal := trivial

/-- Device `c`'s block of the query weights, at a column of one of its heads. -/
theorem wq_block (w : FVec Ideal Cert.ReferenceIdeal.S768x16384 .bf16) (c : Fin 32) (e : Fin 768) (h : Fin 8) (d : Fin 64) :
    Layout.block ⟨2, ![768, 512]⟩ ⟨2, ![768, 16384]⟩ 1 32 c w (by decide) (ix2 e (⟨64 * h.val + d.val, by omega⟩ : Fin 512))
      = w (ix2 e (⟨(Cert.KernelIdeal.headOf c h).val * 64 + d.val, by have := (Cert.KernelIdeal.headOf c h).isLt; omega⟩ : Fin 16384)) := by
  refine congrArg w (funext fun a => Fin.ext ?_)
  match a with
  | ⟨0, _⟩ => rfl
  | ⟨1, _⟩ => show c.val * 512 + (64 * h.val + d.val) = (8 * c.val + h.val) * 64 + d.val; omega

/-- Device `c`'s block of the output weights, at a row of one of its heads. -/
theorem wo_block (w : FVec Ideal Cert.ReferenceIdeal.S16384x768 .bf16) (c : Fin 32) (h : Fin 8) (d : Fin 64) (n : Fin 768) :
    Layout.block ⟨2, ![512, 768]⟩ ⟨2, ![16384, 768]⟩ 0 32 c w (by decide) (ix2 (⟨64 * h.val + d.val, by omega⟩ : Fin 512) n)
      = w (ix2 (⟨(Cert.KernelIdeal.headOf c h).val * 64 + d.val, by have := (Cert.KernelIdeal.headOf c h).isLt; omega⟩ : Fin 16384) n) := by
  refine congrArg w (funext fun a => Fin.ext ?_)
  match a with
  | ⟨0, _⟩ => show c.val * 512 + (64 * h.val + d.val) = (8 * c.val + h.val) * 64 + d.val; omega
  | ⟨1, _⟩ => rfl

theorem algebraic_kernel : Cert.algebraic_KernelIdeal_ReferenceIdeal_pre_finite_KernelIdeal
    (hPre_finite_KernelIdeal := facts_kernelIdeal) := by
  intro m g m' g' hpre hargs
  have hreal := fun c => reals _ _ _ _ _ (hpre c)
  have H : Held m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x_eq := fun c b i e => by rw [Cert.KernelIdeal.x_given, (hargs c).1]
      wq_eq := fun c e h d => by rw [Cert.KernelIdeal.wq_given, (hargs c).2.1]; exact wq_block _ c e h d
      k_eq := fun c b j h d => by rw [Cert.KernelIdeal.k_given, (hargs c).2.2.1]
      v_eq := fun c b j h d => by rw [Cert.KernelIdeal.v_given, (hargs c).2.2.2.1]
      wo_eq := fun c h d n => by rw [Cert.KernelIdeal.wo_given, (hargs c).2.2.2.2]; exact wo_block _ c h d n
      x_real := fun c i => by rw [Cert.KernelIdeal.x_given]; exact (hreal c).1 i
      wq_real := fun c i => by rw [Cert.KernelIdeal.wq_given]; exact (hreal c).2.1 i
      k_real := fun c i => by
        rw [eq_ix4 i]
        exact (congrArg Softmax.IsReal (Cert.KernelIdeal.k_given m c _ _ _ _)).mpr ((hreal c).2.2 _) }
  refine ⟨Cert.KernelIdeal.resultV m, ?_, ?_⟩
  · exact (θ_run Cert.KernelIdeal.defs _ _).mono
      (fun _ h c => ⟨(h.1 c).res, (h.1 c).arg0, (h.1 c).arg1, (h.1 c).arg2, (h.1 c).arg3, (h.1 c).arg4⟩)
      (Cert.KernelIdeal.run_main (F := Ideal) m g)
  · exact (θ_run Cert.ReferenceIdeal.defs _ _).mono
      (fun _ h => ⟨(h 0).1.trans ((Cert.ReferenceIdeal.res_eq m' 0).trans (result_eq H).symm), (h 0).2⟩)
      (Cert.ReferenceIdeal.Value.run (F := Ideal) m' g')

theorem claim : Cert.Claim :=
  ⟨Cert.Kernel.Gen.facts, Cert.KernelIdeal.Gen.facts, Cert.ReferenceIdeal.Gen.facts, facts_kernelIdeal, facts_referenceIdeal,
    frame_kernel, frame_kernelIdeal, fun m ρ _ => frame_kernelIdeal m ρ trivial, frame_referenceIdeal,
    fun m ρ _ => frame_referenceIdeal m ρ trivial, preserves_kernel, algebraic_kernel⟩

end Cert.Proof

end
